-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x1024 : Shape := ⟨2, ![4096, 1024]⟩
abbrev S4096 : Shape := ⟨1, ![4096]⟩
abbrev S8x512x1024 : Shape := ⟨3, ![8, 512, 1024]⟩
abbrev S8x512 : Shape := ⟨2, ![8, 512]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S4096x1024 .f32) (main_arg1 : IVec S4096 32) (main_arg2 : FVec F S8x512x1024 .f32) (main_arg3 : FVec F S8x512 .f32) : IVec S_ 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 8#32
  let main_v2 : IVec S4096 32 := broadcastInDim S4096 ![] bcast_S_S4096 main_c_0
  let main_v3 : IVec S4096 1 := cmpi .slt main_arg1 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Kernel.lean ====
abbrev S4096x1024 : Shape := ⟨2, ![4096, 1024]⟩
abbrev S4096 : Shape := ⟨1, ![4096]⟩
abbrev S8x512x1024 : Shape := ⟨3, ![8, 512, 1024]⟩
abbrev S8x512 : Shape := ⟨2, ![8, 512]⟩
abbrev S4096x1 : Shape := ⟨2, ![4096, 1]⟩
abbrev S8 : Shape := ⟨1, ![8]⟩
abbrev S1x8 : Shape := ⟨2, ![1, 8]⟩
abbrev S4096x8 : Shape := ⟨2, ![4096, 8]⟩
abbrev S_ : Shape := ⟨0, ![]⟩
abbrev S1 : Shape := ⟨1, ![1]⟩
abbrev S16 : Shape := ⟨1, ![16]⟩
abbrev S16x1 : Shape := ⟨2, ![16, 1]⟩
abbrev S16x8 : Shape := ⟨2, ![16, 8]⟩
abbrev S4 : Shape := ⟨1, ![4]⟩
abbrev S1x4 : Shape := ⟨2, ![1, 4]⟩
abbrev S4096x4 : Shape := ⟨2, ![4096, 4]⟩
abbrev S16384 : Shape := ⟨1, ![16384]⟩
abbrev S16384x2x128 : Shape := ⟨3, ![16384, 2, 128]⟩
abbrev S32768x2x128 : Shape := ⟨3, ![32768, 2, 128]⟩
abbrev S128 : Shape := ⟨1, ![128]⟩
abbrev S128x2x128 : Shape := ⟨3, ![128, 2, 128]⟩
abbrev S8192x1024 : Shape := ⟨2, ![8192, 1024]⟩
abbrev S8x1x512 : Shape := ⟨3, ![8, 1, 512]⟩
abbrev S8192x512 : Shape := ⟨2, ![8192, 512]⟩
abbrev S512x1024 : Shape := ⟨2, ![512, 1024]⟩
abbrev S512x512 : Shape := ⟨2, ![512, 512]⟩
abbrev S1x512x1024 : Shape := ⟨3, ![1, 512, 1024]⟩
abbrev S1x1x512 : Shape := ⟨3, ![1, 1, 512]⟩
abbrev S512 : Shape := ⟨1, ![512]⟩
abbrev S1x512 : Shape := ⟨2, ![1, 512]⟩
abbrev S2 : Shape := ⟨1, ![2]⟩
abbrev S1x2 : Shape := ⟨2, ![1, 2]⟩
abbrev S4096x2 : Shape := ⟨2, ![4096, 2]⟩
abbrev S8192 : Shape := ⟨1, ![8192]⟩
abbrev S8192x2x128 : Shape := ⟨3, ![8192, 2, 128]⟩
abbrev S256 : Shape := ⟨1, ![256]⟩
abbrev S256x2x128 : Shape := ⟨3, ![256, 2, 128]⟩
abbrev S4096x512 : Shape := ⟨2, ![4096, 512]⟩

abbrev nBuf : Table → Nat
  | .hbm => 98
  | .local .tc .vmem => 6
  | .local .tc .smem => 2
  | .local .scVector .vmem => 8
  | _ => 0

abbrev bufTy : (tb : Table) → Fin (nBuf tb) → BufTy
  | .hbm, ⟨0, _⟩ => ⟨S4096x1024, .f32⟩
  | .hbm, ⟨1, _⟩ => ⟨S4096, .i32⟩
  | .hbm, ⟨2, _⟩ => ⟨S8x512x1024, .f32⟩
  | .hbm, ⟨3, _⟩ => ⟨S8x512, .f32⟩
  | .hbm, ⟨4, _⟩ => ⟨S4096x1, .i32⟩
  | .hbm, ⟨5, _⟩ => ⟨S8, .i32⟩
  | .hbm, ⟨6, _⟩ => ⟨S1x8, .i32⟩
  | .hbm, ⟨7, _⟩ => ⟨S4096x8, .i32⟩
  | .hbm, ⟨8, _⟩ => ⟨S4096x8, .i32⟩
  | .hbm, ⟨9, _⟩ => ⟨S4096x8, .i1⟩
  | .hbm, ⟨10, _⟩ => ⟨S4096x8, .i32⟩
  | .hbm, ⟨11, _⟩ => ⟨S_, .i32⟩
  | .hbm, ⟨12, _⟩ => ⟨S_, .i32⟩
  | .hbm, ⟨13, _⟩ => ⟨S4096x8, .i32⟩
  | .hbm, ⟨14, _⟩ => ⟨S_, .i32⟩
  | .hbm, ⟨15, _⟩ => ⟨S4096x8, .i32⟩
  | .hbm, ⟨16, _⟩ => ⟨S4096x8, .i32⟩
  | .hbm, ⟨17, _⟩ => ⟨S4096x8, .i32⟩
  | .hbm, ⟨18, _⟩ => ⟨S_, .i32⟩
  | .hbm, ⟨19, _⟩ => ⟨S4096, .i32⟩
  | .hbm, ⟨20, _⟩ => ⟨S1x8, .i32⟩
  | .hbm, ⟨21, _⟩ => ⟨S8, .i32⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S_, .i32⟩
  | .hbm, ⟨29, _⟩ => ⟨S_, .i32⟩
  | .hbm, ⟨30, _⟩ => ⟨S8, .i32⟩
  | .hbm, ⟨31, _⟩ => ⟨S8, .i32⟩
  | .hbm, ⟨32, _⟩ => ⟨S8, .i32⟩
  | .hbm, ⟨33, _⟩ => ⟨S_, .i32⟩
  | .hbm, ⟨34, _⟩ => ⟨S8, .i32⟩
  | .hbm, ⟨35, _⟩ => ⟨S8, .i1⟩
  | .hbm, ⟨36, _⟩ => ⟨S8, .i32⟩
  | .hbm, ⟨37, _⟩ => ⟨S8, .i32⟩
  | .hbm, ⟨38, _⟩ => ⟨S_, .i32⟩
  | .hbm, ⟨39, _⟩ => ⟨S8, .i32⟩
  | .hbm, ⟨40, _⟩ => ⟨S8, .i1⟩
  | .hbm, ⟨41, _⟩ => ⟨S8, .i1⟩
  | .hbm, ⟨42, _⟩ => ⟨S_, .i32⟩
  | .hbm, ⟨43, _⟩ => ⟨S8, .i32⟩
  | .hbm, ⟨44, _⟩ => ⟨S8, .i32⟩
  | .hbm, ⟨45, _⟩ => ⟨S8, .i32⟩
  | .hbm, ⟨46, _⟩ => ⟨S_, .i32⟩
  | .hbm, ⟨47, _⟩ => ⟨S_, .i32⟩
  | .hbm, ⟨48, _⟩ => ⟨S8, .i32⟩
  | .hbm, ⟨49, _⟩ => ⟨S8, .i32⟩
  | .hbm, ⟨50, _⟩ => ⟨S_, .i32⟩
  | .hbm, ⟨51, _⟩ => ⟨S8, .i32⟩
  | .hbm, ⟨52, _⟩ => ⟨S8, .i32⟩
  | .hbm, ⟨53, _⟩ => ⟨S1x8, .i32⟩
  | .hbm, ⟨54, _⟩ => ⟨S4096x8, .i32⟩
  | .hbm, ⟨55, _⟩ => ⟨S4096x8, .i32⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S1x8, .i32⟩
  | .hbm, ⟨60, _⟩ => ⟨S16, .i32⟩
  | .hbm, ⟨61, _⟩ => ⟨S16x1, .i32⟩
  | .hbm, ⟨62, _⟩ => ⟨S16x8, .i32⟩
  | .hbm, ⟨63, _⟩ => ⟨S16x8, .i32⟩
  | .hbm, ⟨64, _⟩ => ⟨S16x8, .i1⟩
  | .hbm, ⟨65, _⟩ => ⟨S16x8, .i32⟩
  | .hbm, ⟨66, _⟩ => ⟨S_, .i32⟩
  | .hbm, ⟨67, _⟩ => ⟨S16, .i32⟩
  | .hbm, ⟨68, _⟩ => ⟨S_, .i32⟩
  | .hbm, ⟨69, _⟩ => ⟨S16, .i32⟩
  | .hbm, ⟨70, _⟩ => ⟨S4096x1, .i32⟩
  | .hbm, ⟨71, _⟩ => ⟨S_, .i32⟩
  | .hbm, ⟨72, _⟩ => ⟨S4096x1, .i32⟩
  | .hbm, ⟨73, _⟩ => ⟨S4096x1, .i32⟩
  | .hbm, ⟨74, _⟩ => ⟨S4, .i32⟩
  | .hbm, ⟨75, _⟩ => ⟨S1x4, .i32⟩
  | .hbm, ⟨76, _⟩ => ⟨S4096x4, .i32⟩
  | .hbm, ⟨77, _⟩ => ⟨S4096x4, .i32⟩
  | .hbm, ⟨78, _⟩ => ⟨S4096x4, .i32⟩
  | .hbm, ⟨79, _⟩ => ⟨S16384, .i32⟩
  | .hbm, ⟨80, _⟩ => ⟨S16384x2x128, .f32⟩
  | .hbm, ⟨81, _⟩ => ⟨S32768x2x128, .f32⟩
  | .hbm, ⟨82, _⟩ => ⟨S8192x1024, .f32⟩
  | .hbm, ⟨83, _⟩ => ⟨S8x1x512, .f32⟩
  | .hbm, ⟨84, _⟩ => ⟨S8192x512, .f32⟩
  | .hbm, ⟨85, _⟩ => ⟨S4096x1, .i32⟩
  | .hbm, ⟨86, _⟩ => ⟨S_, .i32⟩
  | .hbm, ⟨87, _⟩ => ⟨S4096x1, .i32⟩
  | .hbm, ⟨88, _⟩ => ⟨S4096x1, .i32⟩
  | .hbm, ⟨89, _⟩ => ⟨S2, .i32⟩
  | .hbm, ⟨90, _⟩ => ⟨S1x2, .i32⟩
  | .hbm, ⟨91, _⟩ => ⟨S4096x2, .i32⟩
  | .hbm, ⟨92, _⟩ => ⟨S4096x2, .i32⟩
  | .hbm, ⟨93, _⟩ => ⟨S4096x2, .i32⟩
  | .hbm, ⟨94, _⟩ => ⟨S8192, .i32⟩
  | .hbm, ⟨95, _⟩ => ⟨S16384x2x128, .f32⟩
  | .hbm, ⟨96, _⟩ => ⟨S8192x2x128, .f32⟩
  | .hbm, ⟨97, _⟩ => ⟨S4096x512, .f32⟩
  | .local .tc .vmem, ⟨0, _⟩ => ⟨S512x1024, .f32⟩
  | .local .tc .vmem, ⟨1, _⟩ => ⟨S512x1024, .f32⟩
  | .local .tc .vmem, ⟨2, _⟩ => ⟨S8x512x1024, .f32⟩
  | .local .tc .vmem, ⟨3, _⟩ => ⟨S8x1x512, .f32⟩
  | .local .tc .vmem, ⟨4, _⟩ => ⟨S512x512, .f32⟩
  | .local .tc .vmem, ⟨5, _⟩ => ⟨S512x512, .f32⟩
  | .local .tc .smem, ⟨0, _⟩ => ⟨S1, .i32⟩
  | .local .tc .smem, ⟨1, _⟩ => ⟨S16, .i32⟩
  | .local .scVector .vmem, ⟨0, _⟩ => ⟨S128, .i32⟩
  | .local .scVector .vmem, ⟨1, _⟩ => ⟨S128, .i32⟩
  | .local .scVector .vmem, ⟨2, _⟩ => ⟨S128, .i32⟩
  | .local .scVector .vmem, ⟨3, _⟩ => ⟨S128, .i32⟩
  | .local .scVector .vmem, ⟨4, _⟩ => ⟨S128x2x128, .f32⟩
  | .local .scVector .vmem, ⟨5, _⟩ => ⟨S128x2x128, .f32⟩
  | .local .scVector .vmem, ⟨6, _⟩ => ⟨S256, .i32⟩
  | .local .scVector .vmem, ⟨7, _⟩ => ⟨S256x2x128, .f32⟩
  | _, _ => ⟨S4096x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => false
  | ⟨17, _⟩ => false
  | ⟨18, _⟩ => false
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_call0_c : Ref sig .tc := ⟨.hbm, 11, rfl⟩
abbrev main_call0_call0_v0 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v18 : Ref sig .tc := ⟨.hbm, 45, rfl⟩
abbrev main_call2_call0_c : Ref sig .tc := ⟨.hbm, 46, rfl⟩
abbrev main_call2_call0_v0 : Ref sig .tc := ⟨.hbm, 47, rfl⟩
abbrev main_v19 : Ref sig .tc := ⟨.hbm, 48, rfl⟩
abbrev main_v20 : Ref sig .tc := ⟨.hbm, 49, rfl⟩
abbrev main_c_4 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_c_5 : Ref sig .tc := ⟨.hbm, 56, rfl⟩
abbrev main_v26 : Ref sig .tc := ⟨.hbm, 57, rfl⟩
abbrev main_v27 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_6 : Ref sig .tc := ⟨.hbm, 66, rfl⟩
abbrev main_v36 : Ref sig .tc := ⟨.hbm, 67, rfl⟩
abbrev main_c_7 : Ref sig .tc := ⟨.hbm, 68, rfl⟩
abbrev main_v37 : Ref sig .tc := ⟨.hbm, 69, rfl⟩
abbrev main_v39 : Ref sig .tc := ⟨.hbm, 70, rfl⟩
abbrev main_c_8 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_c_9 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v28 : Ref sig .tc := ⟨.smem, 0, rfl⟩
abbrev main_v38 : Ref sig .tc := ⟨.smem, 1, rfl⟩
abbrev main_v48_scv : Ref sig .scVector := ⟨.hbm, 80, rfl⟩
abbrev main_v47_scv : Ref sig .scVector := ⟨.hbm, 79, rfl⟩
abbrev main_v49_scv : Ref sig .scVector := ⟨.hbm, 81, rfl⟩
abbrev main_v62_scv : Ref sig .scVector := ⟨.hbm, 95, rfl⟩
abbrev main_v61_scv : Ref sig .scVector := ⟨.hbm, 94, rfl⟩
abbrev main_v63_scv : Ref sig .scVector := ⟨.hbm, 96, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc2_scratch0 : Ref sig .scVector := ⟨.vmem, 6, rfl⟩
abbrev cc2_scratch1 : Ref sig .scVector := ⟨.vmem, 7, rfl⟩
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  ![v3.toNat]
def k0_off2 (i : grid0.Coords) (c0_i32_0 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v7 : BitVec 32 := Scalar.addi v2 c0_i32_0
  let c0_i32_28_r4 : BitVec 32 := 0#32
  let c0_i32_29_r4 : BitVec 32 := 0#32
  ![v7.toNat, 0, 0]
abbrev grid1 : Pipeline.Grid := ⟨1, ![16], ![false]⟩

abbrev pre1 : Pipeline.Prefetch sig := ⟨2, ![main_v28.idx, main_v38.idx], fun | 0 => main_v28.names | 1 => main_v38.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v6 : Index := Scalar.indexCast arg0
  ![v6.toNat]
def k1_off2 (v7 : BitVec 32) : Fin 3 → Nat :=
  let v8 : Index := Scalar.indexCast v7
  let c0_2 : Index := 0#32
  let c0_3 : Index := 0#32
  ![v8.toNat, 0, 0]
def k1_cond1 (i : grid1.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k1_chk1 (i : grid1.Coords) (v0 : BitVec 32) (v7 : BitVec 32) : Prop :=
  (∀ (k1_h1 : k1_cond1 i v0 = 1#1), ∀ a, (k1_off2 v7) a + S1x512x1024.size a ≤ S8x512x1024.size a)
theorem k1_off2_inb : ∀ (i : grid1.Coords) (v0 : BitVec 32) (v7 : BitVec 32) (k1_hw1 : k1_chk1 i v0 v7), ∀ (k1_h1 : k1_cond1 i v0 = 1#1), ∀ a, (k1_off2 v7) a + S1x512x1024.size a ≤ S8x512x1024.size a := fun i v0 v7 k1_hw1 k1_h1 => k1_hw1 k1_h1

def k1_off3 (i : grid1.Coords) : Fin 1 → Nat :=
  let arg0 : BitVec 32 := BitVec.ofNat 32 (i 0).val
  let v12 : Index := Scalar.indexCast arg0
  ![v12.toNat]
def k1_off4 (v13 : BitVec 32) : Fin 3 → Nat :=
  let v14 : Index := Scalar.indexCast v13
  let c0_4 : Index := 0#32
  let c0_5 : Index := 0#32
  ![v14.toNat, 0, 0]

def k1_chk2 (i : grid1.Coords) (v0 : BitVec 32) (v13 : BitVec 32) : Prop :=
  (∀ (k1_h1 : k1_cond1 i v0 = 1#1), ∀ a, (k1_off4 v13) a + S1x1x512.size a ≤ S8x1x512.size a)
theorem k1_off4_inb : ∀ (i : grid1.Coords) (v0 : BitVec 32) (v13 : BitVec 32) (k1_hw2 : k1_chk2 i v0 v13), ∀ (k1_h1 : k1_cond1 i v0 = 1#1), ∀ a, (k1_off4 v13) a + S1x1x512.size a ≤ S8x1x512.size a := fun i v0 v13 k1_hw2 k1_h1 => k1_hw2 k1_h1

def cc1_transform_0 (inb_S1_S1_0 : ∀ a, (![0] : Fin 1 → Nat) a + S1.size a ≤ S1.size a) (numel1_S1 : S1.numel = 1) (pf : pre1.Contents (Elt F)) (i : grid1.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (inb_S1_S1_0 : ∀ a, (![0] : Fin 1 → Nat) a + S1.size a ≤ S1.size a) (numel1_S1 : S1.numel = 1) (pf : pre1.Contents (Elt F)) (i : grid1.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x512x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k2_off2 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_5_r1 : BitVec 32 := 0#32
  let c0_i32_6_r1 : BitVec 32 := 0#32
  ![v2.toNat, 0, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S4096x1024 : Shape := ⟨2, ![4096, 1024]⟩
abbrev S4096 : Shape := ⟨1, ![4096]⟩
abbrev S8x512x1024 : Shape := ⟨3, ![8, 512, 1024]⟩
abbrev S8x512 : Shape := ⟨2, ![8, 512]⟩
abbrev S_ : Shape := ⟨0, ![]⟩
abbrev S4096x512 : Shape := ⟨2, ![4096, 512]⟩
abbrev S4096x1 : Shape := ⟨2, ![4096, 1]⟩
abbrev S1x512x1024 : Shape := ⟨3, ![1, 512, 1024]⟩
abbrev S512x1024 : Shape := ⟨2, ![512, 1024]⟩
abbrev S1024x512 : Shape := ⟨2, ![1024, 512]⟩
abbrev S1x512 : Shape := ⟨2, ![1, 512]⟩
abbrev S512 : Shape := ⟨1, ![512]⟩

abbrev nBuf : Space → Nat
  | .hbm => 142
  | .vmem => 0
  | .smem => 0
  | _ => 0

abbrev hbmTy0_0 (i : Nat) : BufTy := match i % 128 with
  | 0 => ⟨S4096x1024, .f32⟩
  | 1 => ⟨S4096, .i32⟩
  | 2 => ⟨S8x512x1024, .f32⟩
  | 3 => ⟨S8x512, .f32⟩
  | 4 => ⟨S_, .f32⟩
  | 5 => ⟨S4096x512, .f32⟩
  | 6 => ⟨S_, .i32⟩
  | 7 => ⟨S4096, .i32⟩
  | 8 => ⟨S4096, .i1⟩
  | 9 => ⟨S4096x1, .i1⟩
  | 10 => ⟨S4096x1, .f32⟩
  | 11 => ⟨S1x512x1024, .f32⟩
  | 12 => ⟨S512x1024, .f32⟩
  | 13 => ⟨S1024x512, .f32⟩
  | 14 => ⟨S4096x512, .f32⟩
  | 15 => ⟨S1x512, .f32⟩
  | 16 => ⟨S512, .f32⟩
  | 17 => ⟨S1x512, .f32⟩
  | 18 => ⟨S4096x512, .f32⟩
  | 19 => ⟨S4096x512, .f32⟩
  | 20 => ⟨S4096x512, .f32⟩
  | 21 => ⟨S4096x512, .f32⟩
  | 22 => ⟨S4096x512, .f32⟩
  | 23 => ⟨S_, .i32⟩
  | 24 => ⟨S4096, .i32⟩
  | 25 => ⟨S4096, .i1⟩
  | 26 => ⟨S4096x1, .i1⟩
  | 27 => ⟨S4096x1, .f32⟩
  | 28 => ⟨S1x512x1024, .f32⟩
  | 29 => ⟨S512x1024, .f32⟩
  | 30 => ⟨S1024x512, .f32⟩
  | 31 => ⟨S4096x512, .f32⟩
  | 32 => ⟨S1x512, .f32⟩
  | 33 => ⟨S512, .f32⟩
  | 34 => ⟨S1x512, .f32⟩
  | 35 => ⟨S4096x512, .f32⟩
  | 36 => ⟨S4096x512, .f32⟩
  | 37 => ⟨S4096x512, .f32⟩
  | 38 => ⟨S4096x512, .f32⟩
  | 39 => ⟨S4096x512, .f32⟩
  | 40 => ⟨S_, .i32⟩
  | 41 => ⟨S4096, .i32⟩
  | 42 => ⟨S4096, .i1⟩
  | 43 => ⟨S4096x1, .i1⟩
  | 44 => ⟨S4096x1, .f32⟩
  | 45 => ⟨S1x512x1024, .f32⟩
  | 46 => ⟨S512x1024, .f32⟩
  | 47 => ⟨S1024x512, .f32⟩
  | 48 => ⟨S4096x512, .f32⟩
  | 49 => ⟨S1x512, .f32⟩
  | 50 => ⟨S512, .f32⟩
  | 51 => ⟨S1x512, .f32⟩
  | 52 => ⟨S4096x512, .f32⟩
  | 53 => ⟨S4096x512, .f32⟩
  | 54 => ⟨S4096x512, .f32⟩
  | 55 => ⟨S4096x512, .f32⟩
  | 56 => ⟨S4096x512, .f32⟩
  | 57 => ⟨S_, .i32⟩
  | 58 => ⟨S4096, .i32⟩
  | 59 => ⟨S4096, .i1⟩
  | 60 => ⟨S4096x1, .i1⟩
  | 61 => ⟨S4096x1, .f32⟩
  | 62 => ⟨S1x512x1024, .f32⟩
  | 63 => ⟨S512x1024, .f32⟩
  | 64 => ⟨S1024x512, .f32⟩
  | 65 => ⟨S4096x512, .f32⟩
  | 66 => ⟨S1x512, .f32⟩
  | 67 => ⟨S512, .f32⟩
  | 68 => ⟨S1x512, .f32⟩
  | 69 => ⟨S4096x512, .f32⟩
  | 70 => ⟨S4096x512, .f32⟩
  | 71 => ⟨S4096x512, .f32⟩
  | 72 => ⟨S4096x512, .f32⟩
  | 73 => ⟨S4096x512, .f32⟩
  | 74 => ⟨S_, .i32⟩
  | 75 => ⟨S4096, .i32⟩
  | 76 => ⟨S4096, .i1⟩
  | 77 => ⟨S4096x1, .i1⟩
  | 78 => ⟨S4096x1, .f32⟩
  | 79 => ⟨S1x512x1024, .f32⟩
  | 80 => ⟨S512x1024, .f32⟩
  | 81 => ⟨S1024x512, .f32⟩
  | 82 => ⟨S4096x512, .f32⟩
  | 83 => ⟨S1x512, .f32⟩
  | 84 => ⟨S512, .f32⟩
  | 85 => ⟨S1x512, .f32⟩
  | 86 => ⟨S4096x512, .f32⟩
  | 87 => ⟨S4096x512, .f32⟩
  | 88 => ⟨S4096x512, .f32⟩
  | 89 => ⟨S4096x512, .f32⟩
  | 90 => ⟨S4096x512, .f32⟩
  | 91 => ⟨S_, .i32⟩
  | 92 => ⟨S4096, .i32⟩
  | 93 => ⟨S4096, .i1⟩
  | 94 => ⟨S4096x1, .i1⟩
  | 95 => ⟨S4096x1, .f32⟩
  | 96 => ⟨S1x512x1024, .f32⟩
  | 97 => ⟨S512x1024, .f32⟩
  | 98 => ⟨S1024x512, .f32⟩
  | 99 => ⟨S4096x512, .f32⟩
  | 100 => ⟨S1x512, .f32⟩
  | 101 => ⟨S512, .f32⟩
  | 102 => ⟨S1x512, .f32⟩
  | 103 => ⟨S4096x512, .f32⟩
  | 104 => ⟨S4096x512, .f32⟩
  | 105 => ⟨S4096x512, .f32⟩
  | 106 => ⟨S4096x512, .f32⟩
  | 107 => ⟨S4096x512, .f32⟩
  | 108 => ⟨S_, .i32⟩
  | 109 => ⟨S4096, .i32⟩
  | 110 => ⟨S4096, .i1⟩
  | 111 => ⟨S4096x1, .i1⟩
  | 112 => ⟨S4096x1, .f32⟩
  | 113 => ⟨S1x512x1024, .f32⟩
  | 114 => ⟨S512x1024, .f32⟩
  | 115 => ⟨S1024x512, .f32⟩
  | 116 => ⟨S4096x512, .f32⟩
  | 117 => ⟨S1x512, .f32⟩
  | 118 => ⟨S512, .f32⟩
  | 119 => ⟨S1x512, .f32⟩
  | 120 => ⟨S4096x512, .f32⟩
  | 121 => ⟨S4096x512, .f32⟩
  | 122 => ⟨S4096x512, .f32⟩
  | 123 => ⟨S4096x512, .f32⟩
  | 124 => ⟨S4096x512, .f32⟩
  | 125 => ⟨S_, .i32⟩
  | 126 => ⟨S4096, .i32⟩
  | 127 => ⟨S4096, .i1⟩
  | _ => ⟨S4096x1024, .f32⟩

abbrev hbmTy0_1 (i : Nat) : BufTy := match i % 128 with
  | 0 => ⟨S4096x1, .i1⟩
  | 1 => ⟨S4096x1, .f32⟩
  | 2 => ⟨S1x512x1024, .f32⟩
  | 3 => ⟨S512x1024, .f32⟩
  | 4 => ⟨S1024x512, .f32⟩
  | 5 => ⟨S4096x512, .f32⟩
  | 6 => ⟨S1x512, .f32⟩
  | 7 => ⟨S512, .f32⟩
  | 8 => ⟨S1x512, .f32⟩
  | 9 => ⟨S4096x512, .f32⟩
  | 10 => ⟨S4096x512, .f32⟩
  | 11 => ⟨S4096x512, .f32⟩
  | 12 => ⟨S4096x512, .f32⟩
  | 13 => ⟨S4096x512, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_c_1 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_c_2 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_c_3 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_c_4 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_c_5 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_c_6 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩

abbrev nD : Nat := 1
abbrev τ : Topo := Topo.v7x

variable {F : FTy → Type} [FloatOps F]
-- ==== Proof.Common.lean ====
/-
  What every part of the proof names: the program as the launch theorem sees it, the resource algebra, the buffers
  the SparseCore calls move, and the shares in which the tiles read them.
-/
module

public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

/-- The labels of the TensorCore's pipeline over the kernels' own. -/
abbrev ΛP : Labels := Pipeline.Sig Λ₀ (Fin 1) fun p => (pcfgs (F := F) p).Adm
/-- The two SparseCore calls. -/
abbrev K : SparseCore.Cfg τ sig (ΛP (F := F)) 2 := sc (F := F)
/-- The bodies beneath the SparseCore calls' own dispatch. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are as the launch theorem asks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the copies' counters -/

abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL

/-! ## Shares: the full share halved once for the two SparseCores and four times for a SparseCore's sixteen tiles -/

/-- Part `i` of share `q` halved `n` times. -/
def part : (n : ℕ) → PosShare TreeShare → Fin (2 ^ n) → PosShare TreeShare
  | 0, q, _ => q
  | n + 1, q, i => part n (if i.val % 2 = 0 then q.left else q.right) ⟨i.val / 2, by have := i.isLt; omega⟩

/-- A number below `2 ^ (n + 1)` is a bit and a number below `2 ^ n`. -/
def bitEquiv (n : ℕ) : Fin 2 × Fin (2 ^ n) ≃ Fin (2 ^ (n + 1)) where
  toFun p := ⟨p.1.val + 2 * p.2.val, by have := p.1.isLt; have := p.2.isLt; omega⟩
  invFun i := (⟨i.val % 2, by omega⟩, ⟨i.val / 2, by have := i.isLt; omega⟩)
  left_inv p := by
    have := p.1.isLt
    refine Prod.ext (Fin.ext ?_) (Fin.ext ?_)
    · show (p.1.val + 2 * p.2.val) % 2 = _; omega
    · show (p.1.val + 2 * p.2.val) / 2 = _; omega
  right_inv i := Fin.ext (by show i.val % 2 + 2 * (i.val / 2) = _; omega)

theorem part_bit (n : ℕ) (q : PosShare TreeShare) (b : Fin 2) (i : Fin (2 ^ n)) :
    part (n + 1) q (bitEquiv n (b, i)) = part n (if b = 0 then q.left else q.right) i := by
  have hb := b.isLt
  have h1 : (b.val + 2 * i.val) % 2 = b.val := by omega
  have h2 : (b.val + 2 * i.val) / 2 = i.val := by omega
  rw [part]
  congr 1
  · show (if (b.val + 2 * i.val) % 2 = 0 then _ else _) = _
    rw [h1]; simp only [Fin.ext_iff]; rfl
  · exact Fin.ext h2

/-- A buffer held at a share is held at the share's parts at once. -/
theorem pointsTo_parts {ℓ : Loc nD τ sig} (I : Finset (Idx ℓ)) (f : Buf (Elt F) ℓ) (n : ℕ) :
    ∀ q : PosShare TreeShare, (ℓ ↦[I]{q} f : sProp 𝕄) = bigSep Finset.univ fun i : Fin (2 ^ n) => ℓ ↦[I]{part n q i} f := by
  induction n with
  | zero => exact fun q => (bigSep_univ_of_subsingleton (0 : Fin 1) (Φ := fun i : Fin (2 ^ 0) => (ℓ ↦[I]{part 0 q i} f : sProp 𝕄))).symm
  | succ n ih =>
    intro q
    rw [BI.Entails.antisymm (pointsTo_share (PosShare.mem_left_op_right q)).1 (pointsTo_share (PosShare.mem_left_op_right q)).2,
      ih q.left, ih q.right,
      bigSep_univ_equiv (bitEquiv n) (fun i : Fin (2 ^ (n + 1)) => (ℓ ↦[I]{part (n + 1) q i} f : sProp 𝕄)), bigSep_univ_prod,
      BI.bigSep_fin_two]
    congr 1 <;> refine bigSep_congr fun i _ => ?_
    · rw [part_bit]; rfl
    · rw [part_bit]; rfl

/-- The share in which tile `i` of SparseCore `c` reads a table. -/
abbrev shr (c : Fin 2) (i : Fin 16) : PosShare TreeShare := part 4 (part 1 fullShare c) i

/-- A table held whole is held by every tile at its share. -/
theorem pointsTo_shr {ℓ : Loc nD τ sig} (I : Finset (Idx ℓ)) (f : Buf (Elt F) ℓ) :
    (ℓ ↦[I]{fullShare} f : sProp 𝕄) = bigSep Finset.univ fun c : Fin 2 => bigSep Finset.univ fun i : Fin 16 => ℓ ↦[I]{shr c i} f := by
  rw [pointsTo_parts I f 1 fullShare]
  exact bigSep_congr fun c _ => pointsTo_parts I f 4 _

end Cert.Proof.Moe

end
-- ==== Proof.Scatter.lean ====
/-
  The first SparseCore call: each of the 32 tiles copies its 512 indices, then its 512 rows in four chunks, and
  streams every chunk onto the rows of the padded buffer that the chunk's indices name.
-/
module

public import proofs.«01_k».proof.Proof.Common
public import Idealize.ShloMosaic.Lib.Pointwise.Index

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

abbrev xV : Memref sig .scVector .hbm S16384x2x128 .f32 := Memref.whole main_v48_scv
abbrev iV : Memref sig .scVector .hbm S16384 .i32 := Memref.whole main_v47_scv
abbrev oV : Memref sig .scVector .hbm S32768x2x128 .f32 := Memref.whole main_v49_scv
abbrev l0V : Memref sig .scVector .vmem S128 .i32 := Memref.whole cc0_scratch0
abbrev l1V : Memref sig .scVector .vmem S128 .i32 := Memref.whole cc0_scratch1
abbrev l2V : Memref sig .scVector .vmem S128 .i32 := Memref.whole cc0_scratch2
abbrev l3V : Memref sig .scVector .vmem S128 .i32 := Memref.whole cc0_scratch3
abbrev r0V : Memref sig .scVector .vmem S128x2x128 .f32 := Memref.whole cc0_scratch4
abbrev r1V : Memref sig .scVector .vmem S128x2x128 .f32 := Memref.whole cc0_scratch5
/-- The padded buffer as the streams address it. -/
abbrev oAll : Memref sig .scVector .hbm S32768x2x128 .f32 :=
  (oV).slice (Rect.unit (s := S32768x2x128) ![0, 0, 0] S32768x2x128.size inb_S32768x2x128_S32768x2x128_0_0_0) (fun _ => rfl)

abbrev xLoc (d : Dev nD) : Loc nD τ sig := (d, Proc.tc.devRef main_v48)
abbrev iLoc (d : Dev nD) : Loc nD τ sig := (d, Proc.tc.devRef main_v47)
abbrev oLoc (d : Dev nD) : Loc nD τ sig := (d, Proc.tc.devRef main_v49)

section Tile

variable (d : Dev nD) (L : grid0.Coords)

abbrev cV (L : grid0.Coords) : Fin τ.nSC := (L 0).castLE hcore0
abbrev jV (L : grid0.Coords) : Fin τ.nSub := (L 1).castLE hsub0
abbrev vT (d : Dev nD) (L : grid0.Coords) : Thread nD τ := V d (cV L) (jV L)

abbrev dcell (d : Dev nD) (L : grid0.Coords) (s : DmaSems sig S_) : GSem nD τ sig := (vT d L, .dma s.sem)

theorem mem_dcell (s : DmaSems sig S_) (h : (SemLoc.dma s.sem : SemLoc sig).isScoped .scVector = true) :
    dcell d L s ∈ ownCells (vT d L) := mem_ownCells.mpr ⟨rfl, h⟩

theorem dcell_ne {s t : DmaSems sig S_} (h : s.sem ≠ t.sem) : dcell d L s ≠ dcell d L t := by
  intro e; exact h (by simpa [dcell] using e)

/-- The tile's ten semaphores are among its own. -/
theorem ownSems0_V0 :
    (ownSems0 (vT d L) : sProp 𝕄)
      = iprop(semVal (dcell d L cc0_scratch6) 0 ∗ semVal (dcell d L cc0_scratch7) 0 ∗ semVal (dcell d L cc0_scoped0) 0
          ∗ semVal (dcell d L cc0_scoped1) 0 ∗ semVal (dcell d L cc0_scoped2) 0 ∗ semVal (dcell d L cc0_scoped3) 0
          ∗ semVal (dcell d L cc0_scoped4) 0 ∗ semVal (dcell d L cc0_scoped5) 0 ∗ semVal (dcell d L cc0_scoped6) 0
          ∗ semVal (dcell d L cc0_scoped7) 0
          ∗ bigSep (((((((((((ownCells (vT d L)).erase (dcell d L cc0_scratch6)).erase (dcell d L cc0_scratch7)).erase (dcell d L cc0_scoped0)).erase
              (dcell d L cc0_scoped1)).erase (dcell d L cc0_scoped2)).erase (dcell d L cc0_scoped3)).erase (dcell d L cc0_scoped4)).erase
              (dcell d L cc0_scoped5)).erase (dcell d L cc0_scoped6)).erase (dcell d L cc0_scoped7)) fun g => semVal g 0) := by
  unfold SparseCore.Cfg.ownSems0
  rw [SparseCore.bigSep_erase' (i := dcell d L cc0_scratch6), SparseCore.bigSep_erase' (i := dcell d L cc0_scratch7),
    SparseCore.bigSep_erase' (i := dcell d L cc0_scoped0), SparseCore.bigSep_erase' (i := dcell d L cc0_scoped1),
    SparseCore.bigSep_erase' (i := dcell d L cc0_scoped2), SparseCore.bigSep_erase' (i := dcell d L cc0_scoped3),
    SparseCore.bigSep_erase' (i := dcell d L cc0_scoped4), SparseCore.bigSep_erase' (i := dcell d L cc0_scoped5),
    SparseCore.bigSep_erase' (i := dcell d L cc0_scoped6), SparseCore.bigSep_erase' (i := dcell d L cc0_scoped7)]
  all_goals
    try simp only [Finset.mem_erase]
    try repeat' apply And.intro
    all_goals first
      | exact dcell_ne d L (by decide)
      | exact mem_dcell d L _ (by decide)

abbrev bref (L : grid0.Coords) (b : Ref sig .scVector) : DevRef τ sig := (Proc.scVector (cV L) (jV L)).devRef b

theorem bref_ne {a b : Ref sig .scVector} (h : a ≠ b) : bref L a ≠ bref L b :=
  fun e => h (Proc.devRef_injective _ e)

/-- The tile's six buffers are among its own. -/
theorem ownBufs_V0 :
    (ownBufs (vT d L) : sProp 𝕄)
      = iprop((∃ f, (vT d L).loc cc0_scratch0 ↦{fullShare} f) ∗ (∃ f, (vT d L).loc cc0_scratch1 ↦{fullShare} f)
          ∗ (∃ f, (vT d L).loc cc0_scratch2 ↦{fullShare} f) ∗ (∃ f, (vT d L).loc cc0_scratch3 ↦{fullShare} f)
          ∗ (∃ f, (vT d L).loc cc0_scratch4 ↦{fullShare} f) ∗ (∃ f, (vT d L).loc cc0_scratch5 ↦{fullShare} f)
          ∗ bigSep (((((((ownRefs (τ := τ) (.scVector (cV L) (jV L))).erase (bref L cc0_scratch0)).erase (bref L cc0_scratch1)).erase
              (bref L cc0_scratch2)).erase (bref L cc0_scratch3)).erase (bref L cc0_scratch4)).erase (bref L cc0_scratch5))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := bref L cc0_scratch0) rfl)).trans ?_
  rw [SparseCore.bigSep_erase' (i := bref L cc0_scratch1), SparseCore.bigSep_erase' (i := bref L cc0_scratch2),
    SparseCore.bigSep_erase' (i := bref L cc0_scratch3), SparseCore.bigSep_erase' (i := bref L cc0_scratch4),
    SparseCore.bigSep_erase' (i := bref L cc0_scratch5)]
  all_goals
    try simp only [Finset.mem_erase]
    try repeat' apply And.intro
    all_goals first
      | exact bref_ne L (by decide)
      | exact SparseCore.Cfg.mem_ownRefs_of_owner rfl

/-- The rows of the padded buffer that the tile's 512 words name. -/
abbrev rowP (fi : S16384.Idx → BitVec 32) (L : grid0.Coords) (n : ℕ) : Prop :=
  ∃ k : S16384.Idx, (k 0).val / 512 = 2 * (L 1).val + (L 0).val ∧ (fi k).toNat = n

/-- The tile's rows, as the streams address the buffer. -/
abbrev rowSet (fi : S16384.Idx → BitVec 32) (L : grid0.Coords) : Finset S32768x2x128.Idx :=
  SparseCore.rowsWhere (oAll).view ⟨0, by decide⟩ (rowP fi L)

/-- What a tile is lent: the words and the rows at a share, and its rows of the padded buffer. -/
abbrev pay0 (q : PosShare TreeShare) (fi : Buf (Elt F) (iLoc d)) (fx : Buf (Elt F) (xLoc d)) (fo : Buf (Elt F) (oLoc d)) : sProp 𝕄 :=
  iprop((iLoc d ↦{q} fi) ∗ (xLoc d ↦{q} fx) ∗ (oLoc d ↦[rowSet fi L]{fullShare} fo))

/-- Where word `j` of the tile's chunk `r` sits among all words. -/
abbrev wRect (L : grid0.Coords) (r : Fin 4) : Rect S16384 :=
  Rect.unit (s := S16384) (k0_off1 L (BitVec.ofNat 32 (128 * r.val))) S128.size (k0_off1_inb L r)
/-- The tile's chunk `r` of the words. -/
abbrev lst (fi : S16384.Idx → BitVec 32) (L : grid0.Coords) (r : Fin 4) : S128.Idx → BitVec 32 := fun j => fi ((wRect L r).emb j)

theorem wRect_val (r : Fin 4) (j : S128.Idx) :
    ((wRect L r).emb j 0).val = 1024 * (L 1).val + 512 * (L 0).val + 128 * r.val + (j 0).val := by
  show (k0_off1 L (BitVec.ofNat 32 (128 * r.val))) 0 + 1 * (j 0).val = _
  rw [k0_off1_eq]; simp

theorem wRect_inj {r s : Fin 4} {j k : S128.Idx} (h : (wRect L r).emb j = (wRect L s).emb k) : r = s ∧ j = k := by
  have h0 := congrArg (fun z : S16384.Idx => (z 0).val) h
  simp only [wRect_val] at h0
  have hj : (j 0).val < 128 := (j 0).isLt
  have hk : (k 0).val < 128 := (k 0).isLt
  refine ⟨Fin.ext (by omega), funext fun a => ?_⟩
  rw [Subsingleton.elim a 0]
  exact Fin.ext (by omega)

theorem lst_inj (fi : S16384.Idx → BitVec 32) (hinj : ∀ k l : S16384.Idx, (fi k).toNat = (fi l).toNat → k = l) (r : Fin 4) :
    Function.Injective fun j => (lst fi L r j).toNat := fun _ _ h => (wRect_inj L (hinj _ _ h)).2

theorem lst_ne (fi : S16384.Idx → BitVec 32) (hinj : ∀ k l : S16384.Idx, (fi k).toNat = (fi l).toNat → k = l) {r s : Fin 4} (hrs : r ≠ s)
    (j k : S128.Idx) : (lst fi L r j).toNat ≠ (lst fi L s k).toNat := fun h => hrs (wRect_inj L (hinj _ _ h)).1

theorem lst_own (fi : S16384.Idx → BitVec 32) (r : Fin 4) (j : S128.Idx) : rowP fi L (lst fi L r j).toNat :=
  ⟨_, by
    have hj : (j 0).val < 128 := (j 0).isLt
    have hr := r.isLt
    rw [wRect_val]; omega, rfl⟩

theorem lst_read (r : Fin 4) (fi : Buf (Elt F) (iLoc d)) :
    ((iV).slice (wRect L r) (fun _ => rfl)).view.read (Elt F) fi = lst fi L r := rfl

/-! ### What the four streams leave -/

abbrev hgS : S32768x2x128.Gathers 0 S128x2x128 := gathers_S32768x2x128_S128x2x128
/-- The index inside one row of the padded buffer. -/
def inRow (y : S32768x2x128.Idx) : (S32768x2x128.rowShape hgS.axis).Idx := fun (a : Fin 3) => match a with
  | 0 => (0 : Fin 1) | 1 => (y 1 : Fin 2) | 2 => (y 2 : Fin 128)

theorem idx_cast_val {s s' : Shape} (h : s = s') (x : s'.Idx) (a : Fin s.rank) :
    ((Shape.idxEquiv h).symm x a).val = (x (a.cast (congrArg Shape.rank h))).val := by subst h; rfl

theorem row_idx (k : Fin 128) (y : S32768x2x128.Idx) :
    (S128x2x128.rowRect hgS.axis' k).emb ((Shape.idxEquiv hgS.rowShape_eq).symm (inRow y)) = ix3 k (y 1 : Fin 2) (y 2 : Fin 128) := by
  funext a
  match a with
  | 0 =>
    exact Fin.ext ((congrArg (fun n => k.val + 1 * n) (idx_cast_val (s := S128x2x128.rowShape hgS.axis') hgS.rowShape_eq (inRow y) (0 : Fin 3))).trans
      (by show k.val + 1 * 0 = k.val; omega))
  | 1 =>
    exact Fin.ext ((congrArg (fun n => 0 + 1 * n) (idx_cast_val (s := S128x2x128.rowShape hgS.axis') hgS.rowShape_eq (inRow y) (1 : Fin 3))).trans
      (by show 0 + 1 * (y 1).val = (y 1).val; omega))
  | 2 =>
    exact Fin.ext ((congrArg (fun n => 0 + 1 * n) (idx_cast_val (s := S128x2x128.rowShape hgS.axis') hgS.rowShape_eq (inRow y) (2 : Fin 3))).trans
      (by show 0 + 1 * (y 2).val = (y 2).val; omega))

theorem pay_r0 (fs : Buf (Elt F) ((r0V).view.loc (vT d L))) (k : Fin 128) (y : S32768x2x128.Idx) :
    SparseCore.scatterRowPayload (vT d L) r0V hgS fs k (inRow y) = fs (ix3 k (y 1 : Fin 2) (y 2 : Fin 128)) :=
  congrArg fs (row_idx k y)

theorem pay_r1 (fs : Buf (Elt F) ((r1V).view.loc (vT d L))) (k : Fin 128) (y : S32768x2x128.Idx) :
    SparseCore.scatterRowPayload (vT d L) r1V hgS fs k (inRow y) = fs (ix3 k (y 1 : Fin 2) (y 2 : Fin 128)) :=
  congrArg fs (row_idx k y)

theorem emb_row (r : Fin 32768) (y : S32768x2x128.Idx) (h : r.val = (y 0).val) :
    ((oAll).view.slice (S32768x2x128.rowRect hgS.axis r)).emb (inRow y) = y := by
  funext a
  match a with
  | 0 => exact Fin.ext (by show 0 + 1 * (r.val + 1 * 0) = (y 0).val; omega)
  | 1 => exact Fin.ext (by show 0 + 1 * (0 + 1 * (y 1).val) = (y 1).val; omega)
  | 2 => exact Fin.ext (by show 0 + 1 * (0 + 1 * (y 2).val) = (y 2).val; omega)

theorem mem_row (r : Fin 32768) (y : S32768x2x128.Idx) :
    y ∈ ((oAll).view.slice (S32768x2x128.rowRect hgS.axis r)).set ↔ r.val = (y 0).val := by
  constructor
  · intro h
    obtain ⟨x, -, hx⟩ := Finset.mem_map.mp h
    rw [← hx]
    have h0 : (x 0).val < 1 := (x 0).isLt
    show r.val = 0 + 1 * (r.val + 1 * (x 0).val)
    omega
  · intro h
    exact Finset.mem_map.mpr ⟨inRow y, Finset.mem_univ _, emb_row r y h⟩

theorem scat_mem (l : S128.Idx → BitVec 32) (hn : S128.numel = S128x2x128.size hgS.axis') (hin : ∀ j, (l j).toNat < S32768x2x128.size hgS.axis)
    (hj : Function.Injective fun j => (l j).toNat) (w : Fin 128 → (S32768x2x128.rowShape hgS.axis).Idx → Elt F .f32)
    (fd : Buf (Elt F) ((oAll).view.loc (vT d L))) (y : S32768x2x128.Idx) (j : S128.Idx) (hy : (l j).toNat = (y 0).val) :
    SparseCore.scatterBuf (vT d L) (oAll).view hgS.axis (SparseCore.rows (F := F) l hn hin) w fd y = w (j 0) (inRow y) := by
  have hr : (SparseCore.rows (F := F) l hn hin (j 0)).val = (y 0).val := by
    show (l (S128.rowMajor.symm _)).toNat = _
    rw [← hy]; congr 2
    rw [Equiv.symm_apply_eq]
    exact Fin.ext (Shape.rowMajor_val_one j).symm
  have h1 := SparseCore.scatterBuf_of_mem (vT d L) (oAll).view hgS.axis (SparseCore.rows (F := F) l hn hin) (SparseCore.rows_injective hj) w fd
    (k := j 0) ((mem_row _ y).mpr hr)
  have h2 := View.write_emb_of_mem (v := (oAll).view.slice (S32768x2x128.rowRect hgS.axis (SparseCore.rows (F := F) l hn hin (j 0)))) (Val := Elt F) fd (w (j 0))
    (Finset.mem_univ (inRow y))
  rw [emb_row _ y hr] at h2
  exact h1.trans h2

theorem scat_not_mem (l : S128.Idx → BitVec 32) (hn : S128.numel = S128x2x128.size hgS.axis') (hin : ∀ j, (l j).toNat < S32768x2x128.size hgS.axis)
    (w : Fin 128 → (S32768x2x128.rowShape hgS.axis).Idx → Elt F .f32)
    (fd : Buf (Elt F) ((oAll).view.loc (vT d L))) (y : S32768x2x128.Idx) (hy : ∀ j, (l j).toNat ≠ (y 0).val) :
    SparseCore.scatterBuf (vT d L) (oAll).view hgS.axis (SparseCore.rows (F := F) l hn hin) w fd y = fd y := by
  refine SparseCore.scatterBuf_of_not_mem _ _ _ _ _ _ fun hm => ?_
  obtain ⟨k, -, hk⟩ := Finset.mem_biUnion.mp hm
  exact hy _ ((mem_row _ y).mp hk)

/-- The padded buffer after the call: every row named by a word holds the row at the word's place, the others what they held. -/
def scatV (fi : S16384.Idx → BitVec 32) (fx : S16384x2x128.Idx → Elt F .f32) (fo : S32768x2x128.Idx → Elt F .f32) : S32768x2x128.Idx → Elt F .f32 :=
  open scoped Classical in
  fun y => if h : ∃ k : S16384.Idx, (fi k).toNat = (y 0).val then fx (ix3 (h.choose 0 : Fin 16384) (y 1 : Fin 2) (y 2 : Fin 128)) else fo y

theorem scatV_of (fi : S16384.Idx → BitVec 32) (fx : S16384x2x128.Idx → Elt F .f32) (fo : S32768x2x128.Idx → Elt F .f32)
    (hinj : ∀ k l : S16384.Idx, (fi k).toNat = (fi l).toNat → k = l) (y : S32768x2x128.Idx) (k : S16384.Idx) (h : (fi k).toNat = (y 0).val) :
    scatV fi fx fo y = fx (ix3 (k 0 : Fin 16384) (y 1 : Fin 2) (y 2 : Fin 128)) := by
  classical
  have hx : ∃ k : S16384.Idx, (fi k).toNat = (y 0).val := ⟨k, h⟩
  have : hx.choose = k := hinj _ _ (hx.choose_spec.trans h.symm)
  unfold scatV
  rw [dif_pos hx, this]

/-- The tile's chunk `r` of the rows. -/
abbrev xRect (L : grid0.Coords) (r : Fin 4) : Rect S16384x2x128 :=
  Rect.unit (s := S16384x2x128) (k0_off2 L (BitVec.ofNat 32 (128 * r.val))) S128x2x128.size (k0_off2_inb L r)
abbrev rowsC (fx : S16384x2x128.Idx → Elt F .f32) (L : grid0.Coords) (r : Fin 4) : S128x2x128.Idx → Elt F .f32 := fun j => fx ((xRect L r).emb j)

theorem rowsC_eq (fx : S16384x2x128.Idx → Elt F .f32) (r : Fin 4) (j : S128.Idx) (b : Fin 2) (c : Fin 128) :
    rowsC fx L r (ix3 (j 0 : Fin 128) b c) = fx (ix3 ((wRect L r).emb j 0 : Fin 16384) b c) := by
  show fx _ = fx _
  congr 1; funext a
  match a with
  | 0 =>
    refine Fin.ext ?_
    show (k0_off2 L (BitVec.ofNat 32 (128 * r.val))) 0 + 1 * (j 0).val = ((wRect L r).emb j 0).val
    rw [wRect_val, k0_off2_eq]; simp
  | 1 =>
    refine Fin.ext ?_
    show (k0_off2 L (BitVec.ofNat 32 (128 * r.val))) 1 + 1 * b.val = b.val
    rw [k0_off2_eq]; simp
  | 2 =>
    refine Fin.ext ?_
    show (k0_off2 L (BitVec.ofNat 32 (128 * r.val))) 2 + 1 * c.val = c.val
    rw [k0_off2_eq]; simp

theorem mem_rowSet (fi : S16384.Idx → BitVec 32) (L : grid0.Coords) (y : S32768x2x128.Idx) :
    y ∈ rowSet fi L ↔ rowP fi L (y 0).val := by
  refine (SparseCore.mem_rowsWhere (v := (oAll).view)).trans ⟨fun h => ?_, fun h => ?_⟩
  · refine h.elim fun i hi => ?_
    rw [← (mem_row i y).mp hi.2]; exact hi.1
  · exact ⟨(y 0 : Fin 32768), h, (mem_row _ y).mpr rfl⟩

set_option maxRecDepth 65536 in
/-- The four streams one after the other, on the tile's rows. -/
theorem streams (fi : S16384.Idx → BitVec 32) (fx : S16384x2x128.Idx → Elt F .f32) (fo : S32768x2x128.Idx → Elt F .f32)
    (hinj : ∀ k l : S16384.Idx, (fi k).toNat = (fi l).toNat → k = l)
    (l : Fin 4 → S128.Idx → BitVec 32) (hl : ∀ r, l r = lst fi L r)
    (g : Fin 5 → S32768x2x128.Idx → Elt F .f32) (h0 : g 0 = fo)
    (hm : ∀ r : Fin 4, ∀ (y : S32768x2x128.Idx) (j : S128.Idx), (l r j).toNat = (y 0).val → g r.succ y = rowsC fx L r (ix3 (j 0 : Fin 128) (y 1 : Fin 2) (y 2 : Fin 128)))
    (hn : ∀ r : Fin 4, ∀ y : S32768x2x128.Idx, (∀ j, (l r j).toNat ≠ (y 0).val) → g r.succ y = g r.castSucc y)
    (y : S32768x2x128.Idx) (hy : y ∈ rowSet fi L) : g 4 y = scatV fi fx fo y := by
  have hy' : rowP fi L (y 0).val := (mem_rowSet fi L y).mp hy
  clear hy
  obtain ⟨k, hk, hky⟩ := hy'
  rw [scatV_of fi fx fo hinj y k hky]
  have hklt : (k 0).val < 16384 := show (k 0).val < S16384.size 0 from (k 0).isLt
  have hL0 : (L 0).val < 2 := (L 0).isLt
  have hL1 : (L 1).val < 16 := (L 1).isLt
  -- the word's chunk and its place there
  obtain ⟨r, j, hrj⟩ : ∃ (r : Fin 4) (j : S128.Idx), (wRect L r).emb j = k := by
    refine ⟨⟨(k 0).val / 128 % 4, by omega⟩, ix1 ⟨(k 0).val % 128, by omega⟩, funext fun a => ?_⟩
    rw [Subsingleton.elim a 0]
    refine Fin.ext ?_
    rw [wRect_val]
    show 1024 * (L 1).val + 512 * (L 0).val + 128 * ((k 0).val / 128 % 4) + (k 0).val % 128 = (k 0).val
    omega
  have hlr : (l r j).toNat = (y 0).val := by rw [hl, lst, hrj]; exact hky
  have hne : ∀ s : Fin 4, s ≠ r → ∀ j', (l s j').toNat ≠ (y 0).val := fun s hs j' e => by
    rw [hl] at e hlr
    exact lst_ne L fi hinj hs j' j (e.trans hlr.symm)
  have hv : g r.succ y = fx (ix3 (k 0 : Fin 16384) (y 1 : Fin 2) (y 2 : Fin 128)) :=
    (hm r y j hlr).trans ((rowsC_eq L fx r j (y 1 : Fin 2) (y 2 : Fin 128)).trans (by subst hrj; rfl))
  rw [← hv]
  have step : ∀ s : Fin 4, s ≠ r → g s.succ y = g s.castSucc y := fun s hs => hn s y (hne s hs)
  match r, step with
  | 0, st => exact (st 3 (by decide)).trans ((st 2 (by decide)).trans (st 1 (by decide)))
  | 1, st => exact (st 3 (by decide)).trans (st 2 (by decide))
  | 2, st => exact st 3 (by decide)
  | 3, _ => rfl

set_option maxHeartbeats 4000000 in
set_option maxRecDepth 65536 in
/-- The tile's task: at its end its rows of the padded buffer hold the rows its words send there. -/
theorem tile0_body (hF : (K (F := F)).Facts) (q : PosShare TreeShare) (fi : Buf (Elt F) (iLoc d)) (fx : Buf (Elt F) (xLoc d)) (fo : Buf (Elt F) (oLoc d))
    (hlt : ∀ k : S16384.Idx, (fi k).toNat < 32768) (hinj : ∀ k l : S16384.Idx, (fi k).toNat = (fi l).toNat → k = l)
    (O : CellTallies nD τ sig (HIx 2)) (W : Waits sig (HIx 2)) (hO : ∀ g, O g none = 0) :
    iprop(levAts (K (F := F)).L (K (F := F)).lev ∗ emp
        ∗ pay0 d L q fi fx fo
        ∗ scopedBufs (vT d L) ∗ scopedSems0 (vT d L) ∗ owes (vT d L) O W)
      ⊢ wp frame (wpE (defs₀ (F := F)) 𝒱₀ (vT d L) none) Set.univ
          (cc0__scatter_feat_kernel L xV (Memref.isWhole_whole _) iV (Memref.isWhole_whole _) oV (Memref.isWhole_whole _)
            l0V (Memref.isWhole_whole _) l1V (Memref.isWhole_whole _) l2V (Memref.isWhole_whole _) l3V (Memref.isWhole_whole _)
            r0V (Memref.isWhole_whole _) r1V (Memref.isWhole_whole _) cc0_scratch6 cc0_scratch7
            cc0_scoped0 cc0_scoped1 cc0_scoped2 cc0_scoped3 cc0_scoped4 cc0_scoped5 cc0_scoped6 cc0_scoped7)
          fun _ => iprop(pay0 d L q fi fx (scatV fi fx fo)
            ∗ scopedBufs (vT d L) ∗ scopedSems0 (vT d L)
            ∗ ∃ W', ⌜∀ p ∈ W', p ∈ W ∨ p.2 = none⌝ ∗ owes (vT d L) O W') := by
  simp only [cc0__scatter_feat_kernel_eq_skeleton]; unfold cc0__scatter_feat_kernel_skel
  simp only [k0_part1_eq_skeleton, k0_part2_eq_skeleton]; unfold k0_part1_skel k0_part2_skel
  rw [(K (F := F)).scopedBufs_V hF d (cV L) (jV L), SparseCore.Cfg.scopedSems0_V (Val := Elt F) d (cV L) (jV L), ownSems0_V0, ownBufs_V0]
  iintro ⟨#Hlv, -, ⟨Hi, Hx, Ho⟩, ⟨⟨%b0, Hb0⟩, ⟨%b1, Hb1⟩, ⟨%b2, Hb2⟩, ⟨%b3, Hb3⟩, ⟨%b4, Hb4⟩, ⟨%b5, Hb5⟩, Hbufs⟩,
    ⟨Hs6, Hs7, Ht0, Ht1, Ht2, Ht3, Ht4, Ht5, Ht6, Ht7, Hsems⟩, HO⟩
  ihave Hmw := (show levAts (K (F := F)).L (K (F := F)).lev ⊢ Transfers.MayWaits (vT d L) (default : HIx 2) O from
    (K (F := F)).mayWaits_none (thr := vT d L) hO) $$ Hlv
  ihave Hi' := (Entails.of_eq (show (iLoc d ↦{q} fi : sProp 𝕄) = ((iV).view.loc (vT d L) ↦{q} fi) from rfl)) $$ Hi
  ihave Hx' := (Entails.of_eq (show (xLoc d ↦{q} fx : sProp 𝕄) = ((xV).view.loc (vT d L) ↦{q} fx) from rfl)) $$ Hx
  ihave Ho' := (Entails.of_eq (show (oLoc d ↦[rowSet fi L]{fullShare} fo : sProp 𝕄) = ((oAll).view.loc (vT d L) ↦[SparseCore.rowsWhere (oAll).view ⟨0, by decide⟩ (rowP fi L)]{fullShare} fo) from rfl)) $$ Ho
  ihave Hb0' := (Entails.of_eq (show ((vT d L).loc cc0_scratch0 ↦{fullShare} b0 : sProp 𝕄) = ((l0V).view.loc (vT d L) ↦{fullShare} b0) from rfl)) $$ Hb0
  ihave Hb1' := (Entails.of_eq (show ((vT d L).loc cc0_scratch1 ↦{fullShare} b1 : sProp 𝕄) = ((l1V).view.loc (vT d L) ↦{fullShare} b1) from rfl)) $$ Hb1
  ihave Hb2' := (Entails.of_eq (show ((vT d L).loc cc0_scratch2 ↦{fullShare} b2 : sProp 𝕄) = ((l2V).view.loc (vT d L) ↦{fullShare} b2) from rfl)) $$ Hb2
  ihave Hb3' := (Entails.of_eq (show ((vT d L).loc cc0_scratch3 ↦{fullShare} b3 : sProp 𝕄) = ((l3V).view.loc (vT d L) ↦{fullShare} b3) from rfl)) $$ Hb3
  ihave Hb4' := (Entails.of_eq (show ((vT d L).loc cc0_scratch4 ↦{fullShare} b4 : sProp 𝕄) = ((r0V).view.loc (vT d L) ↦{fullShare} b4) from rfl)) $$ Hb4
  ihave Hb5' := (Entails.of_eq (show ((vT d L).loc cc0_scratch5 ↦{fullShare} b5 : sProp 𝕄) = ((r1V).view.loc (vT d L) ↦{fullShare} b5) from rfl)) $$ Hb5
  sl_exec
  have hl : ∀ r : Fin 4, ∃ l : S128.Idx → BitVec 32, l = lst fi L r := fun r => ⟨_, rfl⟩
  obtain ⟨l0, hl0⟩ := hl 0
  obtain ⟨l1, hl1⟩ := hl 1
  obtain ⟨l2, hl2⟩ := hl 2
  obtain ⟨l3, hl3⟩ := hl 3
  ihave Hl0 := (Entails.of_eq (show ((l0V).view.loc (vT d L) ↦{fullShare} View.write (Elt F) (l0V).view b0 (tile0_body.sl.dma0 d L fi) Finset.univ : sProp 𝕄)
    = ((l0V).view.loc (vT d L) ↦{fullShare} l0) by rw [View.write_whole_univ, hl0]; rfl)) $$ Hb0'
  ihave Hl1 := (Entails.of_eq (show ((l1V).view.loc (vT d L) ↦{fullShare} View.write (Elt F) (l1V).view b1 (tile0_body.sl.dma0_1 d L fi) Finset.univ : sProp 𝕄)
    = ((l1V).view.loc (vT d L) ↦{fullShare} l1) by rw [View.write_whole_univ, hl1]; rfl)) $$ Hb1'
  ihave Hl2 := (Entails.of_eq (show ((l2V).view.loc (vT d L) ↦{fullShare} View.write (Elt F) (l2V).view b2 (tile0_body.sl.dma0_2 d L fi) Finset.univ : sProp 𝕄)
    = ((l2V).view.loc (vT d L) ↦{fullShare} l2) by rw [View.write_whole_univ, hl2]; rfl)) $$ Hb2'
  ihave Hl3 := (Entails.of_eq (show ((l3V).view.loc (vT d L) ↦{fullShare} View.write (Elt F) (l3V).view b3 (tile0_body.sl.dma0_3 d L fi) Finset.univ : sProp 𝕄)
    = ((l3V).view.loc (vT d L) ↦{fullShare} l3) by rw [View.write_whole_univ, hl3]; rfl)) $$ Hb3'
  have hin0 : ∀ j, ((l0V).view.read (Elt F) l0 j).toNat < S32768x2x128.size gathers_S32768x2x128_S128x2x128.axis := fun j => hl0 ▸ hlt _
  have hin1 : ∀ j, ((l1V).view.read (Elt F) l1 j).toNat < S32768x2x128.size gathers_S32768x2x128_S128x2x128.axis := fun j => hl1 ▸ hlt _
  have hin2 : ∀ j, ((l2V).view.read (Elt F) l2 j).toNat < S32768x2x128.size gathers_S32768x2x128_S128x2x128.axis := fun j => hl2 ▸ hlt _
  have hin3 : ∀ j, ((l3V).view.read (Elt F) l3 j).toNat < S32768x2x128.size gathers_S32768x2x128_S128x2x128.axis := fun j => hl3 ▸ hlt _
  have hj0 : Function.Injective fun j => ((l0V).view.read (Elt F) l0 j).toNat := hl0 ▸ lst_inj L fi hinj 0
  have hj1 : Function.Injective fun j => ((l1V).view.read (Elt F) l1 j).toNat := hl1 ▸ lst_inj L fi hinj 1
  have hj2 : Function.Injective fun j => ((l2V).view.read (Elt F) l2 j).toNat := hl2 ▸ lst_inj L fi hinj 2
  have hj3 : Function.Injective fun j => ((l3V).view.read (Elt F) l3 j).toNat := hl3 ▸ lst_inj L fi hinj 3
  have ho0 : ∀ j, rowP fi L ((l0V).view.read (Elt F) l0 j).toNat := hl0 ▸ lst_own L fi 0
  have ho1 : ∀ j, rowP fi L ((l1V).view.read (Elt F) l1 j).toNat := hl1 ▸ lst_own L fi 1
  have ho2 : ∀ j, rowP fi L ((l2V).view.read (Elt F) l2 j).toNat := hl2 ▸ lst_own L fi 2
  have ho3 : ∀ j, rowP fi L ((l3V).view.read (Elt F) l3 j).toNat := hl3 ▸ lst_own L fi 3
  have hn01 : ∀ j k, ((l0V).view.read (Elt F) l0 j).toNat ≠ ((l1V).view.read (Elt F) l1 k).toNat := hl0 ▸ hl1 ▸ lst_ne L fi hinj (r := 0) (s := 1) (by decide)
  have hn12 : ∀ j k, ((l1V).view.read (Elt F) l1 j).toNat ≠ ((l2V).view.read (Elt F) l2 k).toNat := hl1 ▸ hl2 ▸ lst_ne L fi hinj (r := 1) (s := 2) (by decide)
  have hn23 : ∀ j k, ((l2V).view.read (Elt F) l2 j).toNat ≠ ((l3V).view.read (Elt F) l3 k).toNat := hl2 ▸ hl3 ▸ lst_ne L fi hinj (r := 2) (s := 3) (by decide)
  have hn10 : ∀ j k, ((l1V).view.read (Elt F) l1 j).toNat ≠ ((l0V).view.read (Elt F) l0 k).toNat := fun j k => (hn01 k j).symm
  have hn21 : ∀ j k, ((l2V).view.read (Elt F) l2 j).toNat ≠ ((l1V).view.read (Elt F) l1 k).toNat := fun j k => (hn12 k j).symm
  have hn32 : ∀ j k, ((l3V).view.read (Elt F) l3 j).toNat ≠ ((l2V).view.read (Elt F) l2 k).toNat := fun j k => (hn23 k j).symm
  sl_exec
  ihave Ho := (Entails.of_eq (show ((oAll).view.loc (vT d L) ↦[rowSet fi L]{fullShare}
      tile0_body.sl.Ho'_sc6 d L fx fo b4 b5 l0 l1 l2 l3 hin0 hin1 hin2 hin3 : sProp 𝕄) = (oLoc d ↦[rowSet fi L]{fullShare} scatV fi fx fo) from
    pointsTo_congr fun y hy => streams L fi fx fo hinj (fun | 0 => l0 | 1 => l1 | 2 => l2 | 3 => l3)
      (fun | 0 => hl0 | 1 => hl1 | 2 => hl2 | 3 => hl3)
      (fun | 0 => fo | 1 => tile0_body.sl.Ho'_sc0 d L fx fo b4 l0 hin0 | 2 => tile0_body.sl.Ho'_sc2 d L fx fo b4 b5 l0 l1 hin0 hin1
           | 3 => tile0_body.sl.Ho'_sc4 d L fx fo b4 b5 l0 l1 l2 hin0 hin1 hin2 | 4 => tile0_body.sl.Ho'_sc6 d L fx fo b4 b5 l0 l1 l2 l3 hin0 hin1 hin2 hin3)
      rfl
      (fun
        | 0 => fun y j hj => (scat_mem d L l0 rfl hin0 hj0 _ _ y j hj).trans ((pay_r0 d L _ _ y).trans (congrFun (View.write_whole_univ _ _ _) _))
        | 1 => fun y j hj => (scat_mem d L l1 rfl hin1 hj1 _ _ y j hj).trans ((pay_r1 d L _ _ y).trans (congrFun (View.write_whole_univ _ _ _) _))
        | 2 => fun y j hj => (scat_mem d L l2 rfl hin2 hj2 _ _ y j hj).trans ((pay_r0 d L _ _ y).trans (congrFun (View.write_whole_univ _ _ _) _))
        | 3 => fun y j hj => (scat_mem d L l3 rfl hin3 hj3 _ _ y j hj).trans ((pay_r1 d L _ _ y).trans (congrFun (View.write_whole_univ _ _ _) _)))
      (fun
        | 0 => fun y hy => scat_not_mem d L l0 rfl hin0 _ _ y hy
        | 1 => fun y hy => scat_not_mem d L l1 rfl hin1 _ _ y hy
        | 2 => fun y hy => scat_not_mem d L l2 rfl hin2 _ _ y hy
        | 3 => fun y hy => scat_not_mem d L l3 rfl hin3 _ _ y hy)
      y hy)) $$ Ho'
  sl_step
  isplitl [Hi' Hx' Ho]
  · isplitl [Hi']; · iexact Hi'
    isplitl [Hx']; · iexact Hx'
    iexact Ho
  isplitl [Hl0 Hl1 Hl2 Hl3 Hb4' Hb5' Hbufs]
  · isplitl [Hl0]; · iexists _; iexact Hl0
    isplitl [Hl1]; · iexists _; iexact Hl1
    isplitl [Hl2]; · iexists _; iexact Hl2
    isplitl [Hl3]; · iexists _; iexact Hl3
    isplitl [Hb4']; · iexists _; iexact Hb4'
    isplitl [Hb5']; · iexists _; iexact Hb5'
    iexact Hbufs
  isplitl [Hs6 Hs7 Ht0 Ht1 Ht2 Ht3 Ht4 Ht5 Ht6 Ht7 Hsems]
  · isplitl [Hs6]; · iexact Hs6
    isplitl [Hs7]; · iexact Hs7
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    iexact Hsems
  iexists _; isplitr
  swap; · iexact HO
  ipureintro; intro p hp
  simp only [Finset.mem_insert] at hp
  rcases hp with hp | hp | hp | hp | hp | hp | hp | hp | hp | hp | hp | hp | hp
  all_goals first
    | exact .inr (hp ▸ rfl)
    | exact .inl hp

end Tile

end Cert.Proof.Moe

end
-- ==== Proof.Combine.lean ====
/-
  The second SparseCore call: each of the 32 tiles copies its 256 indices, gathers the rows they name out of the
  sorted buffer in one stream, and writes the 256 rows out at the indices' own places.
-/
module

public import proofs.«01_k».proof.Proof.Scatter
public import Idealize.ShloMosaic.Lib.Pointwise.Index

@[expose] public section

noncomputable section

namespace Cert.Proof.Moe.Comb

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

abbrev xV : Memref sig .scVector .hbm S16384x2x128 .f32 := Memref.whole main_v62_scv
abbrev iV : Memref sig .scVector .hbm S8192 .i32 := Memref.whole main_v61_scv
abbrev oV : Memref sig .scVector .hbm S8192x2x128 .f32 := Memref.whole main_v63_scv
abbrev lV : Memref sig .scVector .vmem S256 .i32 := Memref.whole cc2_scratch0
abbrev rV : Memref sig .scVector .vmem S256x2x128 .f32 := Memref.whole cc2_scratch1

abbrev xLoc (d : Dev nD) : Loc nD τ sig := (d, Proc.tc.devRef main_v62)
abbrev iLoc (d : Dev nD) : Loc nD τ sig := (d, Proc.tc.devRef main_v61)
abbrev oLoc (d : Dev nD) : Loc nD τ sig := (d, Proc.tc.devRef main_v63)

section Tile

variable (d : Dev nD) (L : grid2.Coords)

abbrev cV (L : grid2.Coords) : Fin τ.nSC := (L 0).castLE hcore2
abbrev jV (L : grid2.Coords) : Fin τ.nSub := (L 1).castLE hsub2
abbrev vT (d : Dev nD) (L : grid2.Coords) : Thread nD τ := V d (cV L) (jV L)

abbrev dcell (d : Dev nD) (L : grid2.Coords) (s : DmaSems sig S_) : GSem nD τ sig := (vT d L, .dma s.sem)

theorem mem_dcell (s : DmaSems sig S_) (h : (SemLoc.dma s.sem : SemLoc sig).isScoped .scVector = true) :
    dcell d L s ∈ ownCells (vT d L) := mem_ownCells.mpr ⟨rfl, h⟩

theorem dcell_ne {s t : DmaSems sig S_} (h : s.sem ≠ t.sem) : dcell d L s ≠ dcell d L t := by
  intro e; exact h (by simpa [dcell] using e)

/-- The tile's three semaphores are among its own. -/
theorem ownSems0_V2 :
    (ownSems0 (vT d L) : sProp 𝕄)
      = iprop(semVal (dcell d L cc2_scratch2) 0 ∗ semVal (dcell d L cc2_scoped0) 0 ∗ semVal (dcell d L cc2_scoped1) 0
          ∗ bigSep ((((ownCells (vT d L)).erase (dcell d L cc2_scratch2)).erase (dcell d L cc2_scoped0)).erase (dcell d L cc2_scoped1))
              fun g => semVal g 0) := by
  unfold SparseCore.Cfg.ownSems0
  rw [SparseCore.bigSep_erase' (i := dcell d L cc2_scratch2), SparseCore.bigSep_erase' (i := dcell d L cc2_scoped0),
    SparseCore.bigSep_erase' (i := dcell d L cc2_scoped1)]
  all_goals
    try simp only [Finset.mem_erase]
    try repeat' apply And.intro
    all_goals first
      | exact dcell_ne d L (by decide)
      | exact mem_dcell d L _ (by decide)

abbrev bref (L : grid2.Coords) (b : Ref sig .scVector) : DevRef τ sig := (Proc.scVector (cV L) (jV L)).devRef b

theorem bref_ne {a b : Ref sig .scVector} (h : a ≠ b) : bref L a ≠ bref L b :=
  fun e => h (Proc.devRef_injective _ e)

/-- The tile's two buffers are among its own. -/
theorem ownBufs_V2 :
    (ownBufs (vT d L) : sProp 𝕄)
      = iprop((∃ f, (vT d L).loc cc2_scratch0 ↦{fullShare} f) ∗ (∃ f, (vT d L).loc cc2_scratch1 ↦{fullShare} f)
          ∗ bigSep (((ownRefs (τ := τ) (.scVector (cV L) (jV L))).erase (bref L cc2_scratch0)).erase (bref L cc2_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := bref L cc2_scratch0) rfl)).trans ?_
  rw [SparseCore.bigSep_erase' (i := bref L cc2_scratch1)]
  all_goals
    try simp only [Finset.mem_erase]
    try repeat' apply And.intro
    all_goals first
      | exact bref_ne L (by decide)
      | exact SparseCore.Cfg.mem_ownRefs_of_owner rfl

/-- Where the tile's words sit among all words. -/
abbrev wRect (L : grid2.Coords) : Rect S8192 := Rect.unit (s := S8192) (k2_off1 L) S256.size (k2_off1_inb L)
/-- The tile's words. -/
abbrev lst (fi : S8192.Idx → BitVec 32) (L : grid2.Coords) : S256.Idx → BitVec 32 := fun j => fi ((wRect L).emb j)
/-- The tile's rows of the result. -/
abbrev oRow (L : grid2.Coords) : Memref sig .scVector .hbm S256x2x128 .f32 :=
  (oV).slice (Rect.unit (s := S8192x2x128) (k2_off2 L) S256x2x128.size (k2_off2_inb L)) (fun _ => rfl)
abbrev outSet (L : grid2.Coords) : Finset S8192x2x128.Idx := (oRow L).view.set

theorem wRect_val (j : S256.Idx) : ((wRect L).emb j 0).val = 512 * (L 1).val + 256 * (L 0).val + (j 0).val := by
  show (k2_off1 L) 0 + 1 * (j 0).val = _
  rw [k2_off1_eq]; simp

theorem oRow_val0 (j : S256x2x128.Idx) : ((oRow L).view.emb j 0).val = 512 * (L 1).val + 256 * (L 0).val + (j 0).val := by
  show (k2_off2 L) 0 + 1 * (j 0).val = _
  rw [k2_off2_eq]; simp
theorem oRow_val1 (j : S256x2x128.Idx) : ((oRow L).view.emb j 1).val = (j 1).val := by
  show (k2_off2 L) 1 + 1 * (j 1).val = _
  rw [k2_off2_eq]; simp
theorem oRow_val2 (j : S256x2x128.Idx) : ((oRow L).view.emb j 2).val = (j 2).val := by
  show (k2_off2 L) 2 + 1 * (j 2).val = _
  rw [k2_off2_eq]; simp

/-- The result of the call: row `y` is the row of the sorted buffer that word `y` names. -/
def gathV (fi : S8192.Idx → BitVec 32) (fx : S16384x2x128.Idx → Elt F .f32) : S8192x2x128.Idx → Elt F .f32 :=
  fun y => fx (ix3 (Fin.ofNat 16384 (fi (ix1 (y 0 : Fin 8192))).toNat) (y 1 : Fin 2) (y 2 : Fin 128))

abbrev hgG : S16384x2x128.Gathers 0 S256x2x128 := gathers_S16384x2x128_S256x2x128

/-- The sorted buffer as the stream addresses it. -/
abbrev xAll : Memref sig .scVector .hbm S16384x2x128 .f32 :=
  (xV).slice (Rect.unit (s := S16384x2x128) ![0, 0, 0] S16384x2x128.size inb_S16384x2x128_S16384x2x128_0_0_0) (fun _ => rfl)

theorem xAll_read (fx : Buf (Elt F) ((xAll).view.loc (vT d L))) : (xAll).view.read (Elt F) fx = fx := by
  funext j
  refine congrArg fx (funext fun (a : Fin 3) => ?_)
  match a with
  | 0 => exact Fin.ext (by show 0 + 1 * (j 0).val = (j 0).val; omega)
  | 1 => exact Fin.ext (by show 0 + 1 * (j 1).val = (j 1).val; omega)
  | 2 => exact Fin.ext (by show 0 + 1 * (j 2).val = (j 2).val; omega)

/-- What the stream lands: row `x` is the row of the sorted buffer that word `x` of the list names. -/
theorem gather_val (fx : S16384x2x128.Idx → Elt F .f32) (l : S256.Idx → BitVec 32) (hn : S256.numel = S256x2x128.size hgG.axis')
    (hin : ∀ j, (l j).toNat < S16384x2x128.size hgG.axis) (x : S256x2x128.Idx) :
    SparseCore.gatherPayload hgG fx (SparseCore.rows (F := F) l hn hin) x
      = fx (ix3 (Fin.ofNat 16384 (l (ix1 (x 0 : Fin 256))).toNat) (x 1 : Fin 2) (x 2 : Fin 128)) := by
  refine congrArg fx (funext fun (a : Fin 3) => ?_)
  match a with
  | 0 =>
    refine (Shape.Gathers.idx_axis hgG _ x).trans (Fin.ext ?_)
    show (l (S256.rowMajor.symm _)).toNat = (l (ix1 (x 0 : Fin 256))).toNat % 16384
    refine Eq.trans ?_ (Nat.mod_eq_of_lt (show (l (ix1 (x 0 : Fin 256))).toNat < 16384 from hin _)).symm
    refine congrArg (fun z => (l z).toNat) ((Equiv.symm_apply_eq _).mpr ?_)
    exact Fin.ext (Shape.rowMajor_val_one (ix1 (x 0 : Fin 256))).symm
  | 1 => exact Fin.ext (Shape.Gathers.idx_of_ne hgG _ x 1 (by decide))
  | 2 => exact Fin.ext (Shape.Gathers.idx_of_ne hgG _ x 2 (by decide))

theorem lst_gathV (fi : S8192.Idx → BitVec 32) (fx : S16384x2x128.Idx → Elt F .f32) (x : S256x2x128.Idx) :
    fx (ix3 (Fin.ofNat 16384 (lst fi L (ix1 (x 0 : Fin 256))).toNat) (x 1 : Fin 2) (x 2 : Fin 128)) = gathV fi fx ((oRow L).view.emb x) := by
  have h0 : (wRect L).emb (ix1 (x 0 : Fin 256)) = ix1 ((oRow L).view.emb x 0 : Fin 8192) := by
    funext a
    rw [Subsingleton.elim a 0]
    exact Fin.ext ((wRect_val L _).trans (oRow_val0 L x).symm)
  show fx _ = fx _
  refine congrArg fx (funext fun (a : Fin 3) => ?_)
  match a with
  | 0 => exact congrArg (fun z : S8192.Idx => Fin.ofNat 16384 (fi z).toNat) h0
  | 1 => exact Fin.ext (oRow_val1 L x).symm
  | 2 => exact Fin.ext (oRow_val2 L x).symm

/-- What a tile is lent: the words and the rows at a share, and its rows of the result. -/
abbrev pay2 (q : PosShare TreeShare) (fi : Buf (Elt F) (iLoc d)) (fx : Buf (Elt F) (xLoc d)) (fo : Buf (Elt F) (oLoc d)) : sProp 𝕄 :=
  iprop((iLoc d ↦{q} fi) ∗ (xLoc d ↦{q} fx) ∗ (oLoc d ↦[outSet L]{fullShare} fo))

set_option maxHeartbeats 4000000 in
set_option maxRecDepth 65536 in
/-- The tile's task: at its end its rows of the result are the rows its words name. -/
theorem tile2_body (hF : (K (F := F)).Facts) (q : PosShare TreeShare) (fi : Buf (Elt F) (iLoc d)) (fx : Buf (Elt F) (xLoc d)) (fo : Buf (Elt F) (oLoc d))
    (hlt : ∀ k : S8192.Idx, (fi k).toNat < 16384)
    (O : CellTallies nD τ sig (HIx 2)) (W : Waits sig (HIx 2)) (hO : ∀ g, O g none = 0) :
    iprop(levAts (K (F := F)).L (K (F := F)).lev ∗ emp
        ∗ pay2 d L q fi fx fo
        ∗ scopedBufs (vT d L) ∗ scopedSems0 (vT d L) ∗ owes (vT d L) O W)
      ⊢ wp frame (wpE (defs₀ (F := F)) 𝒱₀ (vT d L) none) Set.univ
          (cc2__combine_kernel L xV (Memref.isWhole_whole _) iV (Memref.isWhole_whole _) oV (Memref.isWhole_whole _)
            lV (Memref.isWhole_whole _) rV (Memref.isWhole_whole _) cc2_scratch2 cc2_scoped0 cc2_scoped1)
          fun _ => iprop(pay2 d L q fi fx (gathV fi fx)
            ∗ scopedBufs (vT d L) ∗ scopedSems0 (vT d L)
            ∗ ∃ W', ⌜∀ p ∈ W', p ∈ W ∨ p.2 = none⌝ ∗ owes (vT d L) O W') := by
  simp only [cc2__combine_kernel_eq_skeleton]; unfold cc2__combine_kernel_skel
  rw [(K (F := F)).scopedBufs_V hF d (cV L) (jV L), SparseCore.Cfg.scopedSems0_V (Val := Elt F) d (cV L) (jV L), ownSems0_V2, ownBufs_V2]
  iintro ⟨#Hlv, -, ⟨Hi, Hx, Ho⟩, ⟨⟨%b0, Hb0⟩, ⟨%b1, Hb1⟩, Hbufs⟩, ⟨Hs2, Ht0, Ht1, Hsems⟩, HO⟩
  ihave Hmw := (show levAts (K (F := F)).L (K (F := F)).lev ⊢ Transfers.MayWaits (vT d L) (default : HIx 2) O from
    (K (F := F)).mayWaits_none (thr := vT d L) hO) $$ Hlv
  ihave Hi' := (Entails.of_eq (show (iLoc d ↦{q} fi : sProp 𝕄) = ((iV).view.loc (vT d L) ↦{q} fi) from rfl)) $$ Hi
  ihave Hx' := (Entails.of_eq (show (xLoc d ↦{q} fx : sProp 𝕄) = ((xV).view.loc (vT d L) ↦{q} fx) from rfl)) $$ Hx
  ihave Ho' := (Entails.of_eq (show (oLoc d ↦[outSet L]{fullShare} fo : sProp 𝕄) = ((oRow L).view.loc (vT d L) ↦[(oRow L).view.set]{fullShare} fo) from rfl)) $$ Ho
  ihave Hb0' := (Entails.of_eq (show ((vT d L).loc cc2_scratch0 ↦{fullShare} b0 : sProp 𝕄) = ((lV).view.loc (vT d L) ↦{fullShare} b0) from rfl)) $$ Hb0
  ihave Hb1' := (Entails.of_eq (show ((vT d L).loc cc2_scratch1 ↦{fullShare} b1 : sProp 𝕄) = ((rV).view.loc (vT d L) ↦{fullShare} b1) from rfl)) $$ Hb1
  sl_exec
  obtain ⟨l, hl⟩ : ∃ l : S256.Idx → BitVec 32, l = lst fi L := ⟨_, rfl⟩
  ihave Hl := (Entails.of_eq (show ((lV).view.loc (vT d L) ↦{fullShare} View.write (Elt F) (lV).view b0 (tile2_body.sl.dma0 d L fi) Finset.univ : sProp 𝕄)
    = ((lV).view.loc (vT d L) ↦{fullShare} l) by rw [View.write_whole_univ, hl]; rfl)) $$ Hb0'
  have hin : ∀ j, ((lV).view.read (Elt F) l j).toNat < S16384x2x128.size gathers_S16384x2x128_S256x2x128.axis := fun j => hl ▸ hlt _
  sl_exec
  ihave Ho := (Entails.of_eq (show ((oRow L).view.loc (vT d L) ↦[(oRow L).view.set]{fullShare}
      (oRow L).view.writes (Elt F) fo [⟨Rect.whole S256x2x128, tile2_body.sl.dma0_1 d L fx b1 l hin⟩] : sProp 𝕄)
      = (oLoc d ↦[outSet L]{fullShare} gathV fi fx) from
    pointsTo_congr fun y hy => by
      obtain ⟨x, -, hx⟩ := Finset.mem_map.mp hy
      rw [← hx, ← lst_gathV, ← hl]
      refine (congrFun (View.read_writes_whole (oRow L).view fo (tile2_body.sl.dma0_1 d L fx b1 l hin)) x).trans ?_
      refine (congrFun (View.read_writes_whole (rV).view b1 (tile2_body.sl.gather0 d fx l hin)) x).trans ?_
      exact (gather_val _ l rfl hin x).trans (congrFun (xAll_read d L fx) _))) $$ Ho'
  sl_step
  isplitl [Hi' Hx' Ho]
  · isplitl [Hi']; · iexact Hi'
    isplitl [Hx']; · iexact Hx'
    iexact Ho
  isplitl [Hl Hb1' Hbufs]
  · isplitl [Hl]; · iexists _; iexact Hl
    isplitl [Hb1']; · iexists _; iexact Hb1'
    iexact Hbufs
  isplitl [Hs2 Ht0 Ht1 Hsems]
  · isplitl [Hs2]; · iexact Hs2
    isplitl [Ht0]; · iexact Ht0
    isplitl [Ht1]; · iexact Ht1
    iexact Hsems
  iexists _; isplitr
  swap; · iexact HO
  ipureintro; intro p hp
  simp only [Finset.mem_insert] at hp
  rcases hp with hp | hp | hp | hp
  all_goals first
    | exact .inr (hp ▸ rfl)
    | exact .inl hp

end Tile

end Cert.Proof.Moe.Comb

end
-- ==== Proof.Split.lean ====
/-
  How the buffers of the two SparseCore calls split among the 32 tiles, and join again.
-/
module

public import proofs.«01_k».proof.Proof.Combine

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- A tile of the first call, and of the second. -/
def co0 (c : Fin 2) (i : Fin 16) : grid0.Coords :=
  fun | 0 => c | 1 => i | ⟨_ + 2, h⟩ => absurd h (Nat.not_lt.2 (Nat.le_add_left _ _))
def co2 (c : Fin 2) (i : Fin 16) : grid2.Coords :=
  fun | 0 => c | 1 => i | ⟨_ + 2, h⟩ => absurd h (Nat.not_lt.2 (Nat.le_add_left _ _))

/-- The two indices of a tile as one. -/
theorem bigSep_tiles (Φ : Fin 2 × Fin 16 → sProp 𝕄) :
    (bigSep Finset.univ fun c : Fin 2 => bigSep Finset.univ fun i : Fin 16 => Φ (c, i)) = bigSep Finset.univ Φ :=
  (bigSep_univ_prod Φ).symm

theorem sep_three_1 (A B C E : sProp 𝕄) : iprop(A ∗ B ∗ C ∗ E) ⊢ iprop((A ∗ B ∗ C) ∗ E) := by
  iintro ⟨H1, H2, H3, H4⟩
  isplitl [H1 H2 H3]
  · isplitl [H1]; · iexact H1
    isplitl [H2]; · iexact H2
    iexact H3
  iexact H4
theorem sep_three_2 (A B C E : sProp 𝕄) : iprop((A ∗ B ∗ C) ∗ E) ⊢ iprop(A ∗ B ∗ C ∗ E) := by
  iintro ⟨⟨H1, H2, H3⟩, H4⟩
  isplitl [H1]; · iexact H1
  isplitl [H2]; · iexact H2
  isplitl [H3]; · iexact H3
  iexact H4
/-- Three and one. -/
theorem sep_three (A B C E : sProp 𝕄) : iprop(A ∗ B ∗ C ∗ E) = iprop((A ∗ B ∗ C) ∗ E) :=
  BI.Entails.antisymm (sep_three_1 A B C E) (sep_three_2 A B C E)

section First

variable (d : Dev nD) (fi : S16384.Idx → BitVec 32) (hinj : ∀ k l : S16384.Idx, (fi k).toNat = (fi l).toNat → k = l)

/-- The rows of the padded buffer that no word names. -/
def rest0 : Finset S32768x2x128.Idx :=
  Finset.univ \ (Finset.univ : Finset (Fin 2 × Fin 16)).biUnion fun p => rowSet fi (co0 p.1 p.2)

include hinj in
set_option maxRecDepth 65536 in
theorem rows_disjoint : ∀ p ∈ (Finset.univ : Finset (Fin 2 × Fin 16)), ∀ q ∈ (Finset.univ : Finset (Fin 2 × Fin 16)), p ≠ q →
    Disjoint (rowSet fi (co0 p.1 p.2)) (rowSet fi (co0 q.1 q.2)) := by
  intro p _ q _ hpq
  refine Finset.disjoint_left.mpr fun y h1 h2 => hpq ?_
  obtain ⟨k, hk, hk'⟩ := (mem_rowSet fi _ y).mp h1
  obtain ⟨l, hl, hl'⟩ := (mem_rowSet fi _ y).mp h2
  have hkl : k = l := hinj k l (hk'.trans hl'.symm)
  subst hkl
  have e : 2 * p.2.val + p.1.val = 2 * q.2.val + q.1.val := hk.symm.trans hl
  have h3 := p.1.isLt
  have h4 := q.1.isLt
  exact Prod.ext (Fin.ext (by omega)) (Fin.ext (by omega))

include hinj in
theorem rows_split (g : Buf (Elt F) (oLoc d)) :
    (oLoc d ↦{fullShare} g : sProp 𝕄)
      = iprop((bigSep Finset.univ fun c : Fin 2 => bigSep Finset.univ fun i : Fin 16 => oLoc d ↦[rowSet fi (co0 c i)]{fullShare} g)
        ∗ oLoc d ↦[rest0 fi]{fullShare} g) := by
  rw [bigSep_tiles (fun p => (oLoc d ↦[rowSet fi (co0 p.1 p.2)]{fullShare} g : sProp 𝕄)),
    ← pointsTo_biUnion (ℓ := oLoc d) Finset.univ (fun p : Fin 2 × Fin 16 => rowSet fi (co0 p.1 p.2)) (rows_disjoint fi hinj)]
  exact BI.Entails.antisymm (pointsTo_split_subset (Finset.subset_univ _)).1 (pointsTo_split_subset (Finset.subset_univ _)).2

include hinj in
/-- The words, the rows and the padded buffer are the tiles' parts and the rows that no word names. -/
theorem split0 (fx : Buf (Elt F) (xLoc d)) (g : Buf (Elt F) (oLoc d)) :
    (iprop((iLoc d ↦{fullShare} (fi : Buf (Elt F) (iLoc d))) ∗ (xLoc d ↦{fullShare} fx) ∗ (oLoc d ↦{fullShare} g)) : sProp 𝕄)
      = iprop((bigSep Finset.univ fun c : Fin 2 => bigSep Finset.univ fun i : Fin 16 => pay0 d (co0 c i) (shr c i) fi fx g)
        ∗ oLoc d ↦[rest0 fi]{fullShare} g) := by
  rw [rows_split d fi hinj g, pointsTo_shr (ℓ := iLoc d) Finset.univ (fi : Buf (Elt F) (iLoc d)), pointsTo_shr (ℓ := xLoc d) Finset.univ fx]
  simp only [bigSep_sep']
  exact sep_three _ _ _ _

set_option maxRecDepth 65536 in
/-- The rows that no word names are as they were. -/
theorem rest_kept (fx : S16384x2x128.Idx → Elt F .f32) (fo : Buf (Elt F) (oLoc d)) :
    (oLoc d ↦[rest0 fi]{fullShare} fo : sProp 𝕄) = oLoc d ↦[rest0 fi]{fullShare} (scatV fi fx fo : Buf (Elt F) (oLoc d)) := by
  refine pointsTo_congr fun y hy => ?_
  change S32768x2x128.Idx at y
  unfold scatV
  rw [dif_neg]
  rintro ⟨k, hk⟩
  refine (Finset.mem_sdiff.mp hy).2 (Finset.mem_biUnion.mpr ⟨(⟨(k 0).val / 512 % 2, by omega⟩, ⟨(k 0).val / 512 / 2, ?_⟩), Finset.mem_univ _, ?_⟩)
  · have : (k 0).val < 16384 := (k 0).isLt
    omega
  · refine (mem_rowSet fi _ y).mpr ⟨k, ?_, hk⟩
    show (k 0).val / 512 = 2 * ((k 0).val / 512 / 2) + (k 0).val / 512 % 2
    omega

end First

section Second

variable (d : Dev nD)

theorem mem_outSet (L : grid2.Coords) (y : S8192x2x128.Idx) :
    y ∈ Comb.outSet L ↔ 512 * (L 1).val + 256 * (L 0).val ≤ (y 0).val ∧ (y 0).val < 512 * (L 1).val + 256 * (L 0).val + 256 := by
  rw [show Comb.outSet L = (Rect.unit (s := S8192x2x128) (k2_off2 L) S256x2x128.size (k2_off2_inb L)).set from
    (View.set_slice _ _).trans Finset.map_refl]
  rw [Rect.mem_set_unit, k2_off2_eq]
  constructor
  · intro h; exact h 0
  · intro h a
    match a with
    | ⟨0, _⟩ => exact h
    | ⟨1, _⟩ => exact ⟨Nat.zero_le _, (y 1).isLt⟩
    | ⟨2, _⟩ => exact ⟨Nat.zero_le _, (y 2).isLt⟩

theorem outs_disjoint : ∀ p ∈ (Finset.univ : Finset (Fin 2 × Fin 16)), ∀ q ∈ (Finset.univ : Finset (Fin 2 × Fin 16)), p ≠ q →
    Disjoint (Comb.outSet (co2 p.1 p.2)) (Comb.outSet (co2 q.1 q.2)) := by
  intro p _ q _ hpq
  refine Finset.disjoint_left.mpr fun y h1 h2 => hpq ?_
  have a1 : 512 * p.2.val + 256 * p.1.val ≤ (y 0).val ∧ (y 0).val < 512 * p.2.val + 256 * p.1.val + 256 := (mem_outSet _ y).mp h1
  have a2 : 512 * q.2.val + 256 * q.1.val ≤ (y 0).val ∧ (y 0).val < 512 * q.2.val + 256 * q.1.val + 256 := (mem_outSet _ y).mp h2
  have h3 := p.1.isLt
  have h4 := q.1.isLt
  exact Prod.ext (Fin.ext (by omega)) (Fin.ext (by omega))

theorem outs_cover : (Finset.univ : Finset (Fin 2 × Fin 16)).biUnion (fun p => Comb.outSet (co2 p.1 p.2)) = Finset.univ := by
  refine Finset.eq_univ_iff_forall.mpr fun y => ?_
  have hy : (y 0).val < 8192 := (y 0).isLt
  refine Finset.mem_biUnion.mpr ⟨(⟨(y 0).val / 256 % 2, by omega⟩, ⟨(y 0).val / 512, by omega⟩), Finset.mem_univ _, (mem_outSet _ y).mpr ?_⟩
  show 512 * ((y 0).val / 512) + 256 * ((y 0).val / 256 % 2) ≤ (y 0).val ∧ (y 0).val < 512 * ((y 0).val / 512) + 256 * ((y 0).val / 256 % 2) + 256
  omega

theorem outs_split (g : Buf (Elt F) (Comb.oLoc d)) :
    (Comb.oLoc d ↦{fullShare} g : sProp 𝕄)
      = bigSep Finset.univ fun c : Fin 2 => bigSep Finset.univ fun i : Fin 16 => Comb.oLoc d ↦[Comb.outSet (co2 c i)]{fullShare} g := by
  rw [bigSep_tiles (fun p => (Comb.oLoc d ↦[Comb.outSet (co2 p.1 p.2)]{fullShare} g : sProp 𝕄)),
    ← pointsTo_biUnion (ℓ := Comb.oLoc d) Finset.univ (fun p : Fin 2 × Fin 16 => Comb.outSet (co2 p.1 p.2)) outs_disjoint]
  exact congrArg (fun s => (Comb.oLoc d ↦[s]{fullShare} g : sProp 𝕄)) outs_cover.symm

/-- The words, the sorted rows and the result are the tiles' parts. -/
theorem split2 (fi : Buf (Elt F) (Comb.iLoc d)) (fx : Buf (Elt F) (Comb.xLoc d)) (g : Buf (Elt F) (Comb.oLoc d)) :
    (iprop((Comb.iLoc d ↦{fullShare} fi) ∗ (Comb.xLoc d ↦{fullShare} fx) ∗ (Comb.oLoc d ↦{fullShare} g)) : sProp 𝕄)
      = bigSep Finset.univ fun c : Fin 2 => bigSep Finset.univ fun i : Fin 16 => Comb.pay2 d (co2 c i) (shr c i) fi fx g := by
  rw [outs_split d g, pointsTo_shr (ℓ := Comb.iLoc d) Finset.univ fi, pointsTo_shr (ℓ := Comb.xLoc d) Finset.univ fx]
  simp only [bigSep_sep']

end Second

end Cert.Proof.Moe

end
-- ==== Proof.MetaDefs.lean ====
/-
  The integers the main line computes from the rows' experts, each as the line computes it: the rows' places in the sorted
  buffer, the number of blocks in use, the expert of each block, and the physical rows the two moves go through.
-/
module

public import proofs.«01_k».proof.Proof.Common

@[expose] public section

noncomputable section

namespace Cert.Proof.Moe.Meta

open Cert.KernelIdeal Cert.KernelIdeal.Gen

open Idealize.ShloMosaic

/-- Row `n`'s indicator of its expert: 1 at column `t n`, 0 elsewhere. -/
def oneHot (t : IVec S4096 32) : IVec S4096x8 32 :=
  extui 32 (cmpi .eq (broadcastInDim S4096x8 ![0, 1] bcast_S4096x1_S4096x8_0_1 (broadcastInDim S4096x1 ![0] bcast_S4096_S4096x1_0 t))
    (broadcastInDim S4096x8 ![0, 1] bcast_S1x8_S4096x8_0_1 (broadcastInDim S1x8 ![1] bcast_S8_S1x8_1 (iotaInDim S8 32 0)))) natLt_1_32

/-- The running counts of the experts, down the rows. -/
def cums (t : IVec S4096 32) : IVec S4096x8 32 :=
  Host.reduceWindow IntOp.addi ![4096, 1] ![1, 1] ![4095, 0] ![0, 0] (oneHot t) (broadcastInDim S_ ![] bcast_S_S_ (constantI S_ 32 0#32))
    reduceWindows_S4096x8_S4096x8_w4096s1p4095_0_w1s1p0_0 h_S_

/-- A row's place among the rows of its expert. -/
def rank (t : IVec S4096 32) : IVec S4096 32 :=
  Host.reduce IntOp.addi (muli (oneHot t) (subi (cums t) (broadcastInDim S4096x8 ![] bcast_S_S4096x8 (constantI S_ 32 1#32))))
    (constantI S_ 32 0#32) reducesTo_S4096x8_S4096_d1 h_S_

/-- How many rows each expert has. -/
def counts (t : IVec S4096 32) : IVec S8 32 :=
  shapeCast S8 (extractStridedSlice S1x8 ![4095, 0] (cums t) slices_S4096x8_S1x8_4095_0) shapeCasts_S1x8_S8

/-- The counts, ready to be divided upwards. -/
def divd (t : IVec S4096 32) : IVec S8 32 :=
  subi (addi (counts t) (broadcastInDim S8 ![] bcast_S_S8 (constantI S_ 32 512#32))) (broadcastInDim S8 ![] bcast_S_S8 (constantI S_ 32 1#32))

/-- The division that rounds down, as the line spells it. -/
def fdiv (x : IVec S8 32) (y : IVec S_ 32) : IVec S8 32 :=
  select
    (andi (cmpi .ne (signi x) (broadcastInDim S8 ![] bcast_S_S8 (signi y)))
      (cmpi .ne (Host.remsi x (broadcastInDim S8 ![] bcast_S_S8 y)) (broadcastInDim S8 ![] bcast_S_S8 (constantI S_ 32 0#32))))
    (subi (Host.divsi x (broadcastInDim S8 ![] bcast_S_S8 y)) (broadcastInDim S8 ![] bcast_S_S8 (constantI S_ 32 1#32)))
    (Host.divsi x (broadcastInDim S8 ![] bcast_S_S8 y))

/-- How many blocks of 512 rows each expert takes. -/
def nblk (t : IVec S4096 32) : IVec S8 32 := fdiv (divd t) (constantI S_ 32 512#32)

/-- The running sums of the blocks. -/
def cumb (t : IVec S4096 32) : IVec S8 32 :=
  Host.reduceWindow IntOp.addi ![8] ![1] ![7] ![0] (nblk t) (broadcastInDim S_ ![] bcast_S_S_ (constantI S_ 32 0#32))
    reduceWindows_S8_S8_w8s1p7_0 h_S_

/-- The first row of each expert's blocks. -/
def offs (t : IVec S4096 32) : IVec S8 32 :=
  muli (broadcastInDim S8 ![] bcast_S_S8 (constantI S_ 32 512#32)) (subi (cumb t) (nblk t))

/-- Where each row goes in the sorted buffer. -/
def pos (t : IVec S4096 32) : IVec S4096 32 :=
  addi (Host.reduce IntOp.addi (muli (oneHot t) (broadcastInDim S4096x8 ![0, 1] bcast_S1x8_S4096x8_0_1 (broadcastInDim S1x8 ![1] bcast_S8_S1x8_1 (offs t))))
    (constantI S_ 32 0#32) reducesTo_S4096x8_S4096_d1 h_S_) (rank t)

/-- How many blocks are used. -/
def nuV (t : IVec S4096 32) : IVec S1 32 := extractStridedSlice S1 ![7] (cumb t) slices_S8_S1_7

/-- The expert of each block. -/
def btV (t : IVec S4096 32) : IVec S16 32 :=
  minsi (Host.reduce IntOp.addi (extui 32 (cmpi .sle
      (broadcastInDim S16x8 ![0, 1] bcast_S1x8_S16x8_0_1 (broadcastInDim S1x8 ![1] bcast_S8_S1x8_1 (cumb t)))
      (broadcastInDim S16x8 ![0, 1] bcast_S16x1_S16x8_0_1 (broadcastInDim S16x1 ![0] bcast_S16_S16x1_0 (iotaInDim S16 32 0)))) natLt_1_32)
    (constantI S_ 32 0#32) reducesTo_S16x8_S16_d1 h_S_) (broadcastInDim S16 ![] bcast_S_S16 (constantI S_ 32 7#32))

/-- The quarter rows of the scatter: row `n`'s piece `j` goes to `4 p n + j`. -/
def phys4 (p : IVec S4096 32) : IVec S16384 32 :=
  shapeCast S16384 (addi
    (broadcastInDim S4096x4 ![0, 1] bcast_S4096x1_S4096x4_0_1 (muli (broadcastInDim S4096x1 ![] bcast_S_S4096x1 (constantI S_ 32 4#32))
      (broadcastInDim S4096x1 ![0] bcast_S4096_S4096x1_0 p)))
    (broadcastInDim S4096x4 ![0, 1] bcast_S1x4_S4096x4_0_1 (broadcastInDim S1x4 ![1] bcast_S4_S1x4_1 (iotaInDim S4 32 0)))) shapeCasts_S4096x4_S16384

/-- The half rows of the combine: row `n`'s piece `j` comes from `2 p n + j`. -/
def phys2 (p : IVec S4096 32) : IVec S8192 32 :=
  shapeCast S8192 (addi
    (broadcastInDim S4096x2 ![0, 1] bcast_S4096x1_S4096x2_0_1 (muli (broadcastInDim S4096x1 ![] bcast_S_S4096x1 (constantI S_ 32 2#32))
      (broadcastInDim S4096x1 ![0] bcast_S4096_S4096x1_0 p)))
    (broadcastInDim S4096x2 ![0, 1] bcast_S1x2_S4096x2_0_1 (broadcastInDim S1x2 ![1] bcast_S2_S1x2_1 (iotaInDim S2 32 0)))) shapeCasts_S4096x2_S8192

end Cert.Proof.Moe.Meta
-- ==== Proof.Region.lean ====
/-
  The TensorCore call between the two SparseCore calls: the grouped matrix product over blocks of 512 rows, each
  block's weights and bias chosen by a prefetched table, the number of live blocks by another. The body is run
  once at a symbolic grid point in each of its two cases; the call's effect on the result's array is stated as a
  function of the entry valuation.
-/
module

public import proofs.«01_k».proof.Proof.Common
public import Idealize.ShloMosaic.Lib.Pipeline.RegionArraysTS
public import Idealize.ShloMosaic.Lib.Pipeline.TableIdle
public import Idealize.ShloMosaic.Lib.Pipeline.FrameBody
public import Idealize.ShloMosaic.Lib.Pipeline.ValueKit.Partial
public import Idealize.ShloMosaic.Lib.Pointwise.Index
public import Idealize.ShloMosaic.Lib.VecWindow

@[expose] public section

noncomputable section

namespace Cert.Proof.Moe.Region

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)

variable {F : FTy → Type} [FloatOps F]

local notation "𝕄" => MT nD τ sig (HIx 2) (Elt F) ℕ UU ℕ

/-! ## The body at a symbolic point, in the live case -/

section Body

variable (c : Dev nD) (i : grid1.Coords)
  (m1 : Memref sig .tc .smem S1 .i32) (h1 : m1.IsWhole)
  (m2 : Memref sig .tc .smem S16 .i32) (h2 : m2.IsWhole)
  (m3 : Memref sig .tc .vmem S512x1024 .f32) (h3 : m3.IsWhole)
  (m4 : Memref sig .tc .vmem S8x512x1024 .f32) (h4 : m4.IsWhole)
  (m5 : Memref sig .tc .vmem S8x1x512 .f32) (h5 : m5.IsWhole)
  (m6 : Memref sig .tc .vmem S512x512 .f32) (h6 : m6.IsWhole)

/-- The kernel on symbolic tables and staging memrefs. -/
abbrev bodyG : Prog (TpuEff nD τ sig (Elt F) Λ₀ .tc) PUnit := cc1__mm_body (F := F) i m1 h1 m2 h2 m3 h3 m4 h4 m5 h5 m6 h6

/-- A memref's elements held at the contents `X`. -/
abbrev rep {sp : Space} {sh : Shape} {e : EltTy} (m : Memref sig .tc sp sh e) (X : sh.Idx → Elt F e) : sProp 𝕄 :=
  m.view.loc (c.tc : Thread nD τ) ↦[m.view.set]{fullShare} m.view.rep X

/-- A group number as a word, below eight. -/
abbrev grp (w : BitVec 32) : Fin 8 := Fin.ofNat 8 w.toNat

/-- The block the body stores: the rows' product with the group's weights, the group's bias added. -/
abbrev mmVal (g : Fin 8) (X3 : S512x1024.Idx → Elt F .f32) (X4 : S8x512x1024.Idx → Elt F .f32) (X5 : S8x1x512.Idx → Elt F .f32) :
    S512x512.Idx → Elt F .f32 :=
  k1_pay1 (F := F) X3 (fun y => X4 (ix3 g (y 1) (y 2))) (fun y => X5 (ix3 g (y 1) (y 2)))

/-- What the body's one store leaves in the output stage, the two group offsets being those of group `g`. -/
theorem read_stored (X3 : S512x1024.Idx → Elt F .f32) (X4 : S8x512x1024.Idx → Elt F .f32) (X5 : S8x1x512.Idx → Elt F .f32)
    (f6 : m6.view.ty.Contents (Elt F)) (g : Fin 8) (o2 o4 : Fin 3 → ℕ) (inb2 : ∀ a, o2 a + S1x512x1024.size a ≤ S8x512x1024.size a)
    (inb4 : ∀ a, o4 a + S1x1x512.size a ≤ S8x1x512.size a) (e2 : o2 = ![g.val, 0, 0]) (e4 : o4 = ![g.val, 0, 0]) :
    m6.view.read (Elt F) (m6.view.writes (Elt F) f6
      [⟨Rect.unit (s := S512x512) ![0, 0] S512x512.size inb_S512x512_S512x512_0_0,
          k1_pay1 (F := F)
            (View.readAt (Elt F) m3.view (Rect.unit (s := S512x1024) ![0, 0] S512x1024.size inb_S512x1024_S512x1024_0_0).toLoadRect (m3.view.rep X3))
            (View.readAt (Elt F) m4.view (Rect.unit (s := S8x512x1024) o2 S1x512x1024.size inb2).toLoadRect (m4.view.rep X4))
            (View.readAt (Elt F) m5.view (Rect.unit (s := S8x1x512) o4 S1x1x512.size inb4).toLoadRect (m5.view.rep X5))⟩])
      = mmVal g X3 X4 X5 := by
  subst e2; subst e4
  refine (View.read_writes_full m6.view f6 inb_S512x512_S512x512_0_0 _ []).trans ?_
  have a3 : View.readAt (Elt F) m3.view (Rect.unit (s := S512x1024) ![0, 0] S512x1024.size inb_S512x1024_S512x1024_0_0).toLoadRect (m3.view.rep X3) = X3 :=
    View.readAt_rep_full m3.view X3 inb_S512x1024_S512x1024_0_0
  have a4 : View.readAt (Elt F) m4.view (Rect.unit (s := S8x512x1024) ![g.val, 0, 0] S1x512x1024.size inb2).toLoadRect (m4.view.rep X4)
      = fun y => X4 (ix3 g (y 1) (y 2)) := by
    rw [View.readAt_rep]
    funext y
    refine congrArg X4 (funext fun a => Fin.ext ?_)
    fin_cases a
    · show g.val + 1 * (y 0).val = g.val
      have : (y 0).val < 1 := (y 0).isLt
      omega
    · show 0 + 1 * (y 1).val = (y 1).val; omega
    · show 0 + 1 * (y 2).val = (y 2).val; omega
  have a5 : View.readAt (Elt F) m5.view (Rect.unit (s := S8x1x512) ![g.val, 0, 0] S1x1x512.size inb4).toLoadRect (m5.view.rep X5)
      = fun y => X5 (ix3 g (y 1) (y 2)) := by
    rw [View.readAt_rep]
    funext y
    refine congrArg X5 (funext fun a => Fin.ext ?_)
    fin_cases a
    · show g.val + 1 * (y 0).val = g.val
      have : (y 0).val < 1 := (y 0).isLt
      omega
    · show 0 + 1 * (y 1).val = (y 1).val; omega
    · show 0 + 1 * (y 2).val = (y 2).val; omega
  exact congr (congr (congrArg (k1_pay1 (F := F)) a3) a4) a5

theorem stored_rep (X3 : S512x1024.Idx → Elt F .f32) (X4 : S8x512x1024.Idx → Elt F .f32) (X5 : S8x1x512.Idx → Elt F .f32)
    (f6 : m6.view.ty.Contents (Elt F)) (g : Fin 8) (o2 o4 : Fin 3 → ℕ) (inb2 : ∀ a, o2 a + S1x512x1024.size a ≤ S8x512x1024.size a)
    (inb4 : ∀ a, o4 a + S1x1x512.size a ≤ S8x1x512.size a) (e2 : o2 = ![g.val, 0, 0]) (e4 : o4 = ![g.val, 0, 0]) :
    (m6.view.loc (c.tc : Thread nD τ) ↦[m6.view.set]{fullShare} m6.view.writes (Elt F) f6
      [⟨Rect.unit (s := S512x512) ![0, 0] S512x512.size inb_S512x512_S512x512_0_0,
          k1_pay1 (F := F)
            (View.readAt (Elt F) m3.view (Rect.unit (s := S512x1024) ![0, 0] S512x1024.size inb_S512x1024_S512x1024_0_0).toLoadRect (m3.view.rep X3))
            (View.readAt (Elt F) m4.view (Rect.unit (s := S8x512x1024) o2 S1x512x1024.size inb2).toLoadRect (m4.view.rep X4))
            (View.readAt (Elt F) m5.view (Rect.unit (s := S8x1x512) o4 S1x1x512.size inb4).toLoadRect (m5.view.rep X5))⟩] : sProp 𝕄)
      ⊢ rep c m6 (mmVal g X3 X4 X5) := by
  refine Entails.of_eq (pointsTo_congr fun j hj => ?_)
  obtain ⟨x, -, rfl⟩ := Finset.mem_map.mp hj
  rw [View.rep_emb, ← read_stored m3 m4 m5 m6 X3 X4 X5 f6 g o2 o4 inb2 inb4 e2 e4, View.read_apply, cast_cast, cast_eq]

theorem live_run (XN : S1.Idx → Elt F .i32) (XT : S16.Idx → Elt F .i32)
    (X3 : S512x1024.Idx → Elt F .f32) (X4 : S8x512x1024.Idx → Elt F .f32) (X5 : S8x1x512.Idx → Elt F .f32) (X6 : S512x512.Idx → Elt F .f32)
    (hc : k1_cond1 i (XN (ix1 0)) = 1#1) (hT : (XT (ix1 ((i 0).cast rfl))).toNat < 8) (W) :
    iprop(rep c m1 XN ∗ rep c m2 XT ∗ rep c m3 X3 ∗ rep c m4 X4 ∗ rep c m5 X5 ∗ rep c m6 X6 ∗ owes (c.tc : Thread nD τ) ((K (F := F)).Otc c 1) W)
    ⊢ (wp frame (wpE (defs₀ (F := F)) 𝒱₀ (c.tc : Thread nD τ) none) Set.univ (bodyG i m1 h1 m2 h2 m3 h3 m4 h4 m5 h5 m6 h6) fun _ =>
        iprop(rep c m1 XN ∗ rep c m2 XT ∗ rep c m3 X3 ∗ rep c m4 X4 ∗ rep c m5 X5
          ∗ rep c m6 (mmVal (grp (XT (ix1 ((i 0).cast rfl)))) X3 X4 X5) ∗ owes (c.tc : Thread nD τ) ((K (F := F)).Otc c 1) W) : sProp 𝕄) := by
  dsimp only [bodyG]
  rw [cc1__mm_body_eq_skeleton]
  unfold cc1__mm_body_skel
  iintro ⟨Hn, Ht, H3, H4, H5, H6, HO⟩
  sl_exec
  have e1 : live_run.sl.r m1 XN = XN (ix1 0) := by
    show m1.view.readAt (Elt F) _ (m1.view.rep XN) _ = _
    rw [View.readAt_rep]
    refine congrArg XN (funext fun a => Fin.ext ?_)
    fin_cases a; rfl
  have hc' : k1_cond1 i (live_run.sl.r m1 XN) = 1#1 := by rw [e1]; exact hc
  sl_exec
  have e2 : live_run.sl.r_2 i m2 XT = XT (ix1 ((i 0).cast rfl)) := by
    show m2.view.readAt (Elt F) _ (m2.view.rep XT) _ = _
    rw [View.readAt_rep]
    refine congrArg XT (funext fun a => Fin.ext ?_)
    fin_cases a
    show k1_off1 i 0 + 1 * 0 = (i 0).val
    rw [k1_off1_eq]; rfl
  have hk1 : k1_chk1 i (live_run.sl.r m1 XN) (live_run.sl.r_2 i m2 XT) := by
    intro _ a
    rw [e2]
    fin_cases a
    · show (XT (ix1 ((i 0).cast rfl))).toNat + 1 ≤ 8; omega
    · show 0 + 512 ≤ 512; omega
    · show 0 + 1024 ≤ 1024; omega
  sl_exec
  have e3 : live_run.sl.r_3 i m2 XT = XT (ix1 ((i 0).cast rfl)) := by
    show m2.view.readAt (Elt F) _ (m2.view.rep XT) _ = _
    rw [View.readAt_rep]
    refine congrArg XT (funext fun a => Fin.ext ?_)
    fin_cases a
    show k1_off3 i 0 + 1 * 0 = (i 0).val
    rw [k1_off3_eq]; rfl
  have hk2 : k1_chk2 i (live_run.sl.r m1 XN) (live_run.sl.r_3 i m2 XT) := by
    intro _ a
    rw [e3]
    fin_cases a
    · show (XT (ix1 ((i 0).cast rfl))).toNat + 1 ≤ 8; omega
    · show 0 + 1 ≤ 1; omega
    · show 0 + 512 ≤ 512; omega
  sl_exec
  have hg : (grp (XT (ix1 ((i 0).cast rfl)))).val = (XT (ix1 ((i 0).cast rfl))).toNat := Nat.mod_eq_of_lt hT
  have q2 : k1_off2 (live_run.sl.r_2 i m2 XT) = ![(grp (XT (ix1 ((i 0).cast rfl)))).val, 0, 0] := by
    show ![(live_run.sl.r_2 i m2 XT).toNat, 0, 0] = _
    rw [e2, hg]
  have q4 : k1_off4 (live_run.sl.r_3 i m2 XT) = ![(grp (XT (ix1 ((i 0).cast rfl)))).val, 0, 0] := by
    show ![(live_run.sl.r_3 i m2 XT).toNat, 0, 0] = _
    rw [e3, hg]
  sl_step
  isplitl [Hn]; · iexact Hn
  isplitl [Ht]; · iexact Ht
  isplitl [H3]; · iexact H3
  isplitl [H4]; · iexact H4
  isplitl [H5]; · iexact H5
  isplitl [H6]
  · iapply (stored_rep c m3 m4 m5 m6 X3 X4 X5 (m6.view.rep X6) (grp (XT (ix1 ((i 0).cast rfl)))) _ _ _ _ q2 q4)
    iexact H6
  iexact HO

/-- A step past the used blocks stores nothing. -/
theorem dead_run (XN : S1.Idx → Elt F .i32) (hc : ¬ k1_cond1 i (XN (ix1 0)) = 1#1) (W) :
    iprop(rep c m1 XN ∗ owes (c.tc : Thread nD τ) ((K (F := F)).Otc c 1) W)
    ⊢ (wp frame (wpE (defs₀ (F := F)) 𝒱₀ (c.tc : Thread nD τ) none) Set.univ (bodyG i m1 h1 m2 h2 m3 h3 m4 h4 m5 h5 m6 h6) fun _ =>
        iprop(rep c m1 XN ∗ owes (c.tc : Thread nD τ) ((K (F := F)).Otc c 1) W) : sProp 𝕄) := by
  dsimp only [bodyG]
  rw [cc1__mm_body_eq_skeleton]
  unfold cc1__mm_body_skel
  iintro ⟨Hn, HO⟩
  sl_exec
  have e1 : dead_run.sl.r m1 XN = XN (ix1 0) := by
    show m1.view.readAt (Elt F) _ (m1.view.rep XN) _ = _
    rw [View.readAt_rep]
    refine congrArg XN (funext fun a => Fin.ext ?_)
    fin_cases a; rfl
  have hc' : ¬ k1_cond1 i (dead_run.sl.r m1 XN) = 1#1 := by rw [e1]; exact hc
  sl_exec
  sl_step
  isplitl [Hn]; · iexact Hn
  iexact HO

end Body

end Cert.Proof.Moe.Region

end
-- ==== Proof.RegionRun.lean ====
/-
  The grouped product as a pipeline: the schedule its tables give, the proof data, the body's obligation at each point
  and the region's run, from the two tables and the arrays it reads.
-/
module

public import proofs.«01_k».proof.Proof.Region

@[expose] public section

noncomputable section

namespace Cert.Proof.Moe.Region

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)

variable {F : FTy → Type} [FloatOps F]

local notation "𝕄" => MT nD τ sig (HIx 2) (Elt F) ℕ UU ℕ

/-! ## The schedule -/

theorem coord_val (t : Fin grid1.N) : (grid1.coords t 0).val = t.val := by
  revert t; decide

theorem coord_lt (i : grid1.Coords) : (i 0).val < 16 := (i 0).isLt

theorem word_live : ∀ (t : Fin 16) (n : Fin 17),
    Scalar.cmpi .ne (Scalar.extui (Scalar.cmpi .slt (BitVec.ofNat 32 t.val) (BitVec.ofNat 32 n.val)) : BitVec 32) 0#32 = 1#1 ↔ t.val < n.val := by
  decide

theorem word_min : ∀ (t : Fin 16) (n : Fin 16),
    (Scalar.minsi (BitVec.ofNat 32 t.val) (Scalar.subi (BitVec.ofNat 32 (n.val + 1)) 1#32)).toNat = min t.val n.val := by
  decide

/-- The body works at the points below the number of used blocks. -/
theorem live_iff (i : grid1.Coords) (nu : ℕ) (hnu : nu ≤ 16) : k1_cond1 i (BitVec.ofNat 32 nu) = 1#1 ↔ (i 0).val < nu :=
  word_live ⟨(i 0).val, coord_lt i⟩ ⟨nu, by omega⟩

/-- What the two prefetched tables hold: the number of used blocks, and below it each block's group. -/
structure Tabs (pf : pre1.Contents (Elt F)) (nu : ℕ) : Prop where
  pos : 1 ≤ nu
  le : nu ≤ 16
  hN : (pf 0 : S1.Idx → BitVec 32) (ix1 0) = BitVec.ofNat 32 nu
  hT : ∀ j : Fin 16, j.val < nu → ((pf 1 : S16.Idx → BitVec 32) (ix1 j)).toNat < 8

variable {pf : pre1.Contents (Elt F)} {nu : ℕ}

theorem at_nu (h : Tabs pf nu) :
    pf.at 0 (Rect.unit (s := S1) ![0] S1.size inb_S1_S1_0) numel1_S1 = BitVec.ofNat 32 nu := by
  refine Eq.trans ?_ h.hN
  refine congrArg (pf 0 : S1.Idx → BitVec 32) (funext fun a => Fin.ext ?_)
  fin_cases a
  have : ((Rect.unit (s := S1) ![0] S1.size inb_S1_S1_0).emb (Shape.Idx.first (numel1_S1.symm ▸ Nat.one_pos)) 0).val < 1 := Fin.isLt _
  show ((Rect.unit (s := S1) ![0] S1.size inb_S1_S1_0).emb (Shape.Idx.first (numel1_S1.symm ▸ Nat.one_pos)) 0).val = 0
  omega

theorem tf0_eq (h : Tabs pf nu) (i : grid1.Coords) :
    cc1_transform_0 inb_S1_S1_0 numel1_S1 pf i = ![min (i 0).val (nu - 1), 0] := by
  have e := word_min ⟨(i 0).val, coord_lt i⟩ ⟨nu - 1, by have := h.le; have := h.pos; omega⟩
  have hp := h.pos
  rw [show (nu - 1 + 1) = nu by omega] at e
  unfold cc1_transform_0
  rw [at_nu h]
  exact congrArg (fun n : ℕ => ![n, 0]) e

theorem tf3_eq (h : Tabs pf nu) (i : grid1.Coords) :
    cc1_transform_3 inb_S1_S1_0 numel1_S1 pf i = ![min (i 0).val (nu - 1), 0] := by
  have e := word_min ⟨(i 0).val, coord_lt i⟩ ⟨nu - 1, by have := h.le; have := h.pos; omega⟩
  have hp := h.pos
  rw [show (nu - 1 + 1) = nu by omega] at e
  unfold cc1_transform_3
  rw [at_nu h]
  exact congrArg (fun n : ℕ => ![n, 0]) e

/-- Such tables are admissible. -/
theorem ok_of_tabs (h : Tabs pf nu) : ok1 pf := by
  have hp := h.pos
  have hl := h.le
  refine ⟨fun i => ⟨fun a => ?_, Or.inl rfl⟩, fun i => ⟨fun a => ?_, Or.inl rfl⟩⟩
  · rw [tf0_eq h]
    fin_cases a
    · show (min (i 0).val (nu - 1) + 1) * 512 ≤ 8192; omega
    · show (0 + 1) * 1024 ≤ 1024; omega
  · rw [tf3_eq h]
    fin_cases a
    · show (min (i 0).val (nu - 1) + 1) * 512 ≤ 8192; omega
    · show (0 + 1) * 512 ≤ 512; omega

theorem atD_nu (h : Tabs pf nu) : pf.atD 0 ![0] = BitVec.ofNat 32 nu := by
  refine Eq.trans ?_ h.hN
  refine (dif_pos (fun a => ?_)).trans ?_
  · fin_cases a; show 0 + 1 ≤ 1; omega
  · refine congrArg (pf 0 : S1.Idx → BitVec 32) (funext fun a => Fin.ext ?_)
    fin_cases a; rfl

theorem idle3_eq (h : Tabs pf nu) (i : grid1.Coords) : idle1 pf 3 i = decide (nu ≤ (i 0).val) := by
  show (!(k1_cond1 i (pf.atD 0 ![0]) == 1#1)) = _
  rw [atD_nu h]
  have := live_iff i nu h.le
  by_cases hlt : (i 0).val < nu
  · rw [this.mpr hlt, show decide (nu ≤ (i 0).val) = false from decide_eq_false (by omega)]; rfl
  · rw [show decide (nu ≤ (i 0).val) = true from decide_eq_true (by omega)]
    have h2 : ¬ (k1_cond1 i (BitVec.ofNat 32 nu) = 1#1) := fun e => hlt (this.mp e)
    simpa using h2

/-! ## The proof data -/

section Data

variable (a1 : (pcfg1 (F := F)).Adm) (nu : ℕ) (h : Tabs a1.1 nu) (W : Dev nD → Valuation τ sig (Elt F)) (c : Dev nD)

abbrev adm : (p : Fin 1) → (pcfgs (F := F) p).Adm := fun _ => a1

/-- The arrays the call reads and the one it writes, at entry. -/
abbrev inX (V : Valuation τ sig (Elt F)) : S8192x1024.Idx → Elt F .f32 := V (Proc.devRef .tc main_v50)
abbrev inW (V : Valuation τ sig (Elt F)) : S8x512x1024.Idx → Elt F .f32 := V (Proc.devRef .tc main_arg2)
abbrev inB (V : Valuation τ sig (Elt F)) : S8x1x512.Idx → Elt F .f32 := V (Proc.devRef .tc main_v51)
abbrev inO (V : Valuation τ sig (Elt F)) : S8192x512.Idx → Elt F .f32 := V (Proc.devRef .tc main_v52)
/-- The two tables. -/
abbrev tabN : S1.Idx → Elt F .i32 := a1.1 0
abbrev tabB : S16.Idx → Elt F .i32 := a1.1 1

/-- Block `j` of the rows. -/
def blkX (X : S8192x1024.Idx → Elt F .f32) (j : Fin 16) : S512x1024.Idx → Elt F .f32 := fun z =>
  X (ix2 ⟨512 * j.val + (z 0).val, by have h1 := j.isLt; have h2 : (z 0).val < 512 := (z 0).isLt; show _ < 8192; omega⟩ (z 1))

/-- The block whose rows a point holds: its own below the number of used blocks, the last used one past it. -/
def lastLive (t : Fin grid1.N) : Fin 16 := ⟨min t.val (nu - 1), by have : t.val < 16 := t.isLt; omega⟩

/-- What the call stores into block `j` of its result. -/
def outBlk (V : Valuation τ sig (Elt F)) (T : S16.Idx → Elt F .i32) (j : Fin 16) : S512x512.Idx → Elt F .f32 :=
  mmVal (grp (T (ix1 j))) (blkX (inX V) j) (inW V) (inB V)

/-- The tables, held whole. -/
abbrev tabs : sProp 𝕄 := Pipeline.prefHeld pre1 c (fun _ => fullShare) a1.1

def dat : Dat τ (Elt F) (HIx 2) ℕ UU ℕ (cfg1 a1) c where
  A w := W c (Proc.devRef .tc (Pipeline.arrRef spec1 w))
  after w t := match w with
    | ⟨0, _⟩ => blkX (inX (W c)) (lastLive nu t)
    | ⟨1, _⟩ => inW (W c)
    | ⟨2, _⟩ => inB (W c)
    | ⟨3, _⟩ => outBlk (W c) (tabB a1) (lastLive nu t)
  Φ _ := tabs a1 c
  q _ := fullShare
  owed _ := (K (F := F)).Otc c 1
  recorded _ := {p | (K (F := F)).lev ((c : Thread nD τ), p.1) p.2 ≤ 8}

theorem after_w0 (t : Fin grid1.N) : (dat a1 nu W c).after 0 t = blkX (inX (W c)) (lastLive nu t) := rfl
theorem after_w1 (t : Fin grid1.N) : (dat a1 nu W c).after 1 t = inW (W c) := rfl
theorem after_w2 (t : Fin grid1.N) : (dat a1 nu W c).after 2 t = inB (W c) := rfl
theorem after_w3 (t : Fin grid1.N) : (dat a1 nu W c).after 3 t = outBlk (W c) (tabB a1) (lastLive nu t) := rfl

/-! ### What the windows hold when the body runs -/

include h in
theorem blockOf_w0 (t : Fin grid1.N) : (dat a1 nu W c).blockOf 0 t = blkX (inX (W c)) (lastLive nu t) := by
  funext z
  unfold Dat.blockOf
  rw [View.read_apply]
  change S512x1024.Idx at z
  refine congrArg (inX (W c)) (funext fun a => Fin.ext ?_)
  have e := tf0_eq h (grid1.coords t)
  rw [coord_val] at e
  fin_cases a
  · show cc1_transform_0 inb_S1_S1_0 numel1_S1 a1.1 (grid1.coords t) 0 * 512 + 1 * (z 0).val = 512 * min t.val (nu - 1) + (z 0).val
    rw [e]
    show min t.val (nu - 1) * 512 + 1 * (z 0).val = _
    omega
  · show cc1_transform_0 inb_S1_S1_0 numel1_S1 a1.1 (grid1.coords t) 1 * 1024 + 1 * (z 1).val = (z 1).val
    rw [e]
    show 0 * 1024 + 1 * (z 1).val = _
    omega

theorem blockOf_w1 (t : Fin grid1.N) : (dat a1 nu W c).blockOf 1 t = inW (W c) := by
  funext z
  unfold Dat.blockOf
  rw [View.read_apply]
  change S8x512x1024.Idx at z
  refine congrArg (inW (W c)) (funext fun a => Fin.ext ?_)
  fin_cases a
  · show 0 * 8 + 1 * (z 0).val = (z 0).val; omega
  · show 0 * 512 + 1 * (z 1).val = (z 1).val; omega
  · show 0 * 1024 + 1 * (z 2).val = (z 2).val; omega

theorem blockOf_w2 (t : Fin grid1.N) : (dat a1 nu W c).blockOf 2 t = inB (W c) := by
  funext z
  unfold Dat.blockOf
  rw [View.read_apply]
  change S8x1x512.Idx at z
  refine congrArg (inB (W c)) (funext fun a => Fin.ext ?_)
  fin_cases a
  · show 0 * 8 + 1 * (z 0).val = (z 0).val; omega
  · show 0 * 1 + 1 * (z 1).val = (z 1).val; omega
  · show 0 * 512 + 1 * (z 2).val = (z 2).val; omega

include h in
theorem before_w0 (t : Fin grid1.N) (d) : (dat a1 nu W c).before 0 t d = blkX (inX (W c)) (lastLive nu t) := by
  refine ((dat a1 nu W c).before_in_eq_fetched 0 rfl (fun _ => rfl) (fun _ _ _ => rfl) (fun t => ?_) t d).trans ?_
  · rw [blockOf_w0 a1 nu h W c]; exact after_w0 a1 nu W c t
  · refine ((dat a1 nu W c).fetched_of_clip_none 0 t (fun _ => rfl) d (blkX (inX (W c)) (lastLive nu t))).trans ?_
    unfold Dat.fetched
    rw [blockOf_w0 a1 nu h W c]
    exact Window.fill_cut ((cfg1 a1).win 0) (grid1.coords t) (blkX (inX (W c)) (lastLive nu t))

theorem before_w1 (t : Fin grid1.N) (d) : (dat a1 nu W c).before 1 t d = inW (W c) := by
  refine ((dat a1 nu W c).before_in_eq_fetched 1 rfl (fun _ => rfl) (fun _ _ _ => rfl) (fun t => ?_) t d).trans ?_
  · rw [blockOf_w1 a1 nu W c]; exact after_w1 a1 nu W c t
  · refine ((dat a1 nu W c).fetched_of_clip_none 1 t (fun _ => rfl) d (inW (W c))).trans ?_
    unfold Dat.fetched
    rw [blockOf_w1 a1 nu W c]
    exact Window.fill_cut ((cfg1 a1).win 1) (grid1.coords t) (inW (W c))

theorem before_w2 (t : Fin grid1.N) (d) : (dat a1 nu W c).before 2 t d = inB (W c) := by
  refine ((dat a1 nu W c).before_in_eq_fetched 2 rfl (fun _ => rfl) (fun _ _ _ => rfl) (fun t => ?_) t d).trans ?_
  · rw [blockOf_w2 a1 nu W c]; exact after_w2 a1 nu W c t
  · refine ((dat a1 nu W c).fetched_of_clip_none 2 t (fun _ => rfl) d (inB (W c))).trans ?_
    unfold Dat.fetched
    rw [blockOf_w2 a1 nu W c]
    exact Window.fill_cut ((cfg1 a1).win 2) (grid1.coords t) (inB (W c))

/-! ### The result's window through the schedule -/

include h in
theorem index3_eq (t : Fin grid1.N) : ((cfg1 a1).win 3).index t = ![min t.val (nu - 1), 0] := by
  refine (tf3_eq h (grid1.coords t)).trans ?_
  rw [coord_val]

include h in
/-- The result's block is written back at the last point and wherever the next point's block is another one. -/
theorem flush3_eq (t : Fin grid1.N) : ((cfg1 a1).win 3).flush t = decide (t.val + 1 = 16 ∨ t.val + 1 < nu) := by
  have hp := h.pos
  have hl := h.le
  rw [Window.flush_eq_flushF]
  unfold Window.flushF
  have htl : t.val < 16 := t.isLt
  rw [Bool.eq_iff_iff]
  simp only [Bool.and_eq_true, Bool.or_eq_true, decide_eq_true_eq]
  constructor
  · rintro ⟨-, h1 | ⟨h1, a, ha⟩⟩
    · exact Or.inl h1
    · rw [index3_eq a1 nu h, index3_eq a1 nu h] at ha
      refine Or.inr ?_
      match a with
      | ⟨0, _⟩ =>
        have ha' : min (t.val + 1) (nu - 1) ≠ min t.val (nu - 1) := ha
        omega
      | ⟨1, _⟩ => exact absurd rfl ha
  · intro hc
    refine ⟨rfl, ?_⟩
    by_cases h1 : t.val + 1 = 16
    · exact Or.inl h1
    · refine Or.inr ⟨show t.val + 1 < 16 by omega, (⟨0, Nat.zero_lt_two⟩ : Fin 2), ?_⟩
      rw [index3_eq a1 nu h, index3_eq a1 nu h]
      show min (t.val + 1) (nu - 1) ≠ min t.val (nu - 1)
      omega

include h in
theorem fresh3_eq (n : ℕ) (hn : n ≤ 16) : (cfg1 a1).fresh 3 n = decide (n < nu ∨ n = 16) := by
  have hp := h.pos
  have hl := h.le
  refine (cfg1 a1).fresh_tab 3 (fun n => decide (n < nu ∨ n = 16)) ?_ (fun t => ?_) n hn
  · exact decide_eq_true (Or.inl (by omega))
  · have ht : t.val < 16 := t.isLt
    have e1 : (cfg1 a1).idle 3 ((cfg1 a1).grid.coords t) = decide (nu ≤ t.val) := by
      refine (idle3_eq h (grid1.coords t)).trans ?_
      rw [coord_val]
    rw [flush3_eq a1 nu h t, e1, Bool.eq_iff_iff]
    simp only [Bool.and_eq_true, Bool.or_eq_true, decide_eq_true_eq]
    omega

include h in
theorem before_w3 (t : Fin grid1.N) (ht : nu ≤ t.val) (d) :
    (dat a1 nu W c).before 3 t d = outBlk (W c) (tabB a1) (lastLive nu t) := by
  have hp := h.pos
  have htl : t.val < 16 := t.isLt
  refine ((dat a1 nu W c).before_out_traj 3 rfl (fun _ _ => rfl) (fun t' h0 hi hf => ?_) t.val t rfl d).trans ?_
  · have e1 : (cfg1 a1).idle 3 ((cfg1 a1).grid.coords t') = decide (nu ≤ t'.val) := by
      refine (idle3_eq h (grid1.coords t')).trans ?_
      rw [coord_val]
    rw [e1, decide_eq_true_eq] at hi
    rw [after_w3, after_w3]
    refine congrArg _ (Fin.ext ?_)
    show min t'.val (nu - 1) = min (t'.val - 1) (nu - 1)
    omega
  · rw [fresh3_eq a1 nu h t.val (by omega), if_neg (by simp only [decide_eq_true_eq]; omega)]
    refine (after_w3 a1 nu W c _).trans ?_
    refine congrArg _ (Fin.ext ?_)
    show min (t.val - 1) (nu - 1) = min t.val (nu - 1)
    omega

/-! ### The body at a point -/

abbrev st0 (t : Fin grid1.N) : Memref sig .tc .vmem S512x1024 .f32 := spec1_0.stage ((cfg1 a1).slots t 0)
abbrev st1 (t : Fin grid1.N) : Memref sig .tc .vmem S8x512x1024 .f32 := spec1_1.stage ((cfg1 a1).slots t 1)
abbrev st2 (t : Fin grid1.N) : Memref sig .tc .vmem S8x1x512 .f32 := spec1_2.stage ((cfg1 a1).slots t 2)
abbrev st3 (t : Fin grid1.N) : Memref sig .tc .vmem S512x512 .f32 := spec1_3.stage ((cfg1 a1).slots t 3)

abbrev bodyAt (t : Fin grid1.N) :=
  bodyG (F := F) (grid1.coords t) (Memref.whole main_v28) (Memref.isWhole_whole _) (Memref.whole main_v38) (Memref.isWhole_whole _)
    (st0 a1 t) (hstage1_0 (((cfg1 a1).slots t 0).cast nbuf1_0)) (st1 a1 t) (hstage1_1 (((cfg1 a1).slots t 1).cast nbuf1_1))
    (st2 a1 t) (hstage1_2 (((cfg1 a1).slots t 2).cast nbuf1_2)) (st3 a1 t) (hstage1_3 (((cfg1 a1).slots t 3).cast nbuf1_3))

theorem defs_tc : (defs₀ (F := F)) .tc (cfg1 a1).body = fun a =>
    bodyG (F := F) (grid1.coords a.1) (Memref.whole main_v28) (Memref.isWhole_whole _) (Memref.whole main_v38) (Memref.isWhole_whole _)
      (spec1_0.stage (a.2 0)) (hstage1_0 ((a.2 0).cast nbuf1_0)) (spec1_1.stage (a.2 1)) (hstage1_1 ((a.2 1).cast nbuf1_1))
      (spec1_2.stage (a.2 2)) (hstage1_2 ((a.2 2).cast nbuf1_2)) (spec1_3.stage (a.2 3)) (hstage1_3 ((a.2 3).cast nbuf1_3)) := rfl

theorem prog_eq (t : Fin grid1.N) : (defs₀ (F := F)) .tc (cfg1 a1).body ((cfg1 a1).bodyArgs t ((cfg1 a1).slots t)) = bodyAt a1 t :=
  (congrFun (defs_tc a1) _).trans rfl

theorem rep_whole (r : Ref sig .tc) (X : Buf (Elt F) ((c.tc : Thread nD τ).loc r)) :
    rep c (Memref.whole r) X = (((c.tc : Thread nD τ).loc r) ↦{fullShare} X : sProp 𝕄) :=
  (owns_eq_rep (c.tc : Thread nD τ) (Memref.whole r) fullShare X).symm.trans (owns_whole (c.tc : Thread nD τ) r fullShare X)

omit [FloatOps F] in
theorem pair_eq (v : pre1.Contents (Elt F)) : (Pipeline.prefHeld pre1 c (fun _ => fullShare) v : sProp 𝕄)
    = iprop((((c.tc : Thread nD τ).loc main_v28) ↦{fullShare} (show Buf (Elt F) ((c.tc : Thread nD τ).loc main_v28) from v 0))
        ∗ (((c.tc : Thread nD τ).loc main_v38) ↦{fullShare} (show Buf (Elt F) ((c.tc : Thread nD τ).loc main_v38) from v 1))) := by
  unfold Pipeline.prefHeld
  rw [show (Finset.univ : Finset (Fin 2)) = insert 0 {1} from by decide, bigSep_insert (by decide), bigSep_singleton]
  rfl

/-- The tables held are the body's two scalar memrefs held. -/
theorem tabs_eq : tabs a1 c = iprop(rep c (Memref.whole main_v28) (tabN a1) ∗ rep c (Memref.whole main_v38) (tabB a1)) :=
  (pair_eq c a1.1).trans (congrArg₂ BIBase.sep (rep_whole c main_v28 (tabN a1)).symm (rep_whole c main_v38 (tabB a1)).symm)

theorem idle_at (t : Fin grid1.N) (h : Tabs a1.1 nu) : (cfg1 a1).idle 3 ((cfg1 a1).grid.coords t) = decide (nu ≤ t.val) := by
  refine (idle3_eq h (grid1.coords t)).trans ?_
  rw [coord_val]

include h in
theorem hlive (t : Fin grid1.N) (hl : t.val < nu) : k1_cond1 (grid1.coords t) (tabN a1 (ix1 0)) = 1#1 := by
  rw [show tabN a1 (ix1 0) = BitVec.ofNat 32 nu from h.hN]
  exact (live_iff (grid1.coords t) nu h.le).mpr (by rw [coord_val]; exact hl)

include h in
theorem hdead (t : Fin grid1.N) (hl : ¬ t.val < nu) : ¬ k1_cond1 (grid1.coords t) (tabN a1 (ix1 0)) = 1#1 := by
  rw [show tabN a1 (ix1 0) = BitVec.ofNat 32 nu from h.hN]
  exact fun e => hl (by have := (live_iff (grid1.coords t) nu h.le).mp e; rwa [coord_val] at this)

include h in
theorem hgrp (t : Fin grid1.N) (hl : t.val < nu) : (tabB a1 (ix1 ((grid1.coords t 0).cast rfl))).toNat < 8 :=
  h.hT ((grid1.coords t 0).cast rfl) (by show (grid1.coords t 0).val < nu; rw [coord_val]; exact hl)

theorem hout (t : Fin grid1.N) (hl : t.val < nu) :
    mmVal (grp (tabB a1 (ix1 ((grid1.coords t 0).cast rfl)))) (blkX (inX (W c)) (lastLive nu t)) (inW (W c)) (inB (W c))
      = outBlk (W c) (tabB a1) (lastLive nu t) := by
  have e : ((grid1.coords t 0).cast rfl : Fin 16) = lastLive nu t := Fin.ext (by
    show (grid1.coords t 0).val = min t.val (nu - 1)
    rw [coord_val]; omega)
  rw [e]; rfl

include h in
set_option backward.isDefEq.respectTransparency.types false in
theorem body_obligation : BodyObligation (dat a1 nu W c) (defs₀ (F := F)) 𝒱₀ (none : HIx 2) Set.univ := fun t => by
  rw [bigSep_W1, bigSep_W1]
  dsimp only
  simp only [before_w0 a1 nu h W c, before_w1 a1 nu W c, before_w2 a1 nu W c, after_w0 a1 nu W c, after_w1 a1 nu W c, after_w2 a1 nu W c]
  rw [show (dat a1 nu W c).Φ t.castSucc = tabs a1 c from rfl, show (dat a1 nu W c).Φ t.succ = tabs a1 c from rfl]
  unfold Dat.owesAt Pipeline.owesWithin
  rw [show (dat a1 nu W c).owed t.castSucc = (K (F := F)).Otc c 1 from rfl, show (dat a1 nu W c).owed t.succ = (K (F := F)).Otc c 1 from rfl,
    tabs_eq]
  sl_rw [prog_eq a1 t]
  have ei : idle1 a1.1 3 ((pcfg1.gridAt a1.1).coords t) = decide (nu ≤ t.val) := idle_at a1 nu t h
  by_cases hl : t.val < nu
  · rw [ei, show decide (nu ≤ t.val) = false from decide_eq_false (by omega)]
    dsimp only
    rw [after_w3]
    iintro ⟨⟨HN, HT⟩, ⟨%Wd, %hWd, HO⟩, ⟨%d0, H0⟩, ⟨%d1, H1⟩, ⟨%d2, H2⟩, ⟨%d3, H3⟩⟩
    iapply (wp_wand_r Idealize.ShloMosaic.frame (wpE (defs₀ (F := F)) 𝒱₀ (c.tc : Thread nD τ) none) Set.univ)
    isplitl [HN HT HO H0 H1 H2 H3]
    · iapply (live_run c (grid1.coords t) (Memref.whole main_v28) (Memref.isWhole_whole _) (Memref.whole main_v38) (Memref.isWhole_whole _)
        (st0 a1 t) (hstage1_0 (((cfg1 a1).slots t 0).cast nbuf1_0)) (st1 a1 t) (hstage1_1 (((cfg1 a1).slots t 1).cast nbuf1_1))
        (st2 a1 t) (hstage1_2 (((cfg1 a1).slots t 2).cast nbuf1_2)) (st3 a1 t) (hstage1_3 (((cfg1 a1).slots t 3).cast nbuf1_3))
        (tabN a1) (tabB a1) (blkX (inX (W c)) (lastLive nu t)) (inW (W c)) (inB (W c)) ((dat a1 nu W c).before 3 t d3) (hlive a1 nu h t hl) (hgrp a1 nu h t hl) Wd)
      isplitl [HN]; · iexact HN
      isplitl [HT]; · iexact HT
      isplitl [H0]; · iapply (rep_of_owns (c.tc : Thread nD τ) (st0 a1 t) fullShare _); iexact H0
      isplitl [H1]; · iapply (rep_of_owns (c.tc : Thread nD τ) (st1 a1 t) fullShare _); iexact H1
      isplitl [H2]; · iapply (rep_of_owns (c.tc : Thread nD τ) (st2 a1 t) fullShare _); iexact H2
      isplitl [H3]; · iapply (rep_of_owns (c.tc : Thread nD τ) (st3 a1 t) fullShare _); iexact H3
      iexact HO
    · iintro %u ⟨HN, HT, H0, H1, H2, H3, HO⟩
      isplitl [HN HT]
      · isplitl [HN]; · iexact HN
        iexact HT
      isplitl [HO]
      · iexists Wd; isplitr; · ipureintro; exact hWd
        iexact HO
      isplitl [H0]; · iapply (owns_of_rep (c.tc : Thread nD τ) (st0 a1 t) fullShare _); iexact H0
      isplitl [H1]; · iapply (owns_of_rep (c.tc : Thread nD τ) (st1 a1 t) fullShare _); iexact H1
      isplitl [H2]; · iapply (owns_of_rep (c.tc : Thread nD τ) (st2 a1 t) fullShare _); iexact H2
      iapply (owns_of_rep (c.tc : Thread nD τ) (st3 a1 t) fullShare _)
      rw [← hout a1 nu W c t hl]
      iexact H3
  · rw [ei, show decide (nu ≤ t.val) = true from decide_eq_true (by omega)]
    dsimp only
    simp only [before_w3 a1 nu h W c t (by omega), after_w3]
    cases hfl : (pcfg1.win a1 3).flush t
    · erw [hfl]
      dsimp only
      iintro ⟨⟨HN, HT⟩, ⟨%Wd, %hWd, HO⟩, ⟨%d0, H0⟩, ⟨%d1, H1⟩, ⟨%d2, H2⟩, ⟨%d3, H3⟩⟩
      iapply (wp_wand_r Idealize.ShloMosaic.frame (wpE (defs₀ (F := F)) 𝒱₀ (c.tc : Thread nD τ) none) Set.univ)
      isplitl [HN HO]
      · iapply (dead_run c (grid1.coords t) (Memref.whole main_v28) (Memref.isWhole_whole _) (Memref.whole main_v38) (Memref.isWhole_whole _)
          (st0 a1 t) (hstage1_0 (((cfg1 a1).slots t 0).cast nbuf1_0)) (st1 a1 t) (hstage1_1 (((cfg1 a1).slots t 1).cast nbuf1_1))
          (st2 a1 t) (hstage1_2 (((cfg1 a1).slots t 2).cast nbuf1_2)) (st3 a1 t) (hstage1_3 (((cfg1 a1).slots t 3).cast nbuf1_3))
          (tabN a1) (hdead a1 nu h t hl) Wd)
        isplitl [HN]; · iexact HN
        iexact HO
      · iintro %u ⟨HN, HO⟩
        isplitl [HN HT]
        · isplitl [HN]; · iexact HN
          iexact HT
        isplitl [HO]
        · iexists Wd; isplitr; · ipureintro; exact hWd
          iexact HO
        isplitl [H0]; · iexact H0
        isplitl [H1]; · iexact H1
        isplitl [H2]; · iexact H2
        iexists d3; iexact H3
    · erw [hfl]
      dsimp only
      iintro ⟨⟨HN, HT⟩, ⟨%Wd, %hWd, HO⟩, ⟨%d0, H0⟩, ⟨%d1, H1⟩, ⟨%d2, H2⟩, ⟨%d3, H3⟩⟩
      iapply (wp_wand_r Idealize.ShloMosaic.frame (wpE (defs₀ (F := F)) 𝒱₀ (c.tc : Thread nD τ) none) Set.univ)
      isplitl [HN HO]
      · iapply (dead_run c (grid1.coords t) (Memref.whole main_v28) (Memref.isWhole_whole _) (Memref.whole main_v38) (Memref.isWhole_whole _)
          (st0 a1 t) (hstage1_0 (((cfg1 a1).slots t 0).cast nbuf1_0)) (st1 a1 t) (hstage1_1 (((cfg1 a1).slots t 1).cast nbuf1_1))
          (st2 a1 t) (hstage1_2 (((cfg1 a1).slots t 2).cast nbuf1_2)) (st3 a1 t) (hstage1_3 (((cfg1 a1).slots t 3).cast nbuf1_3))
          (tabN a1) (hdead a1 nu h t hl) Wd)
        isplitl [HN]; · iexact HN
        iexact HO
      · iintro %u ⟨HN, HO⟩
        isplitl [HN HT]
        · isplitl [HN]; · iexact HN
          iexact HT
        isplitl [HO]
        · iexists Wd; isplitr; · ipureintro; exact hWd
          iexact HO
        isplitl [H0]; · iexact H0
        isplitl [H1]; · iexact H1
        isplitl [H2]; · iexact H2
        iexact H3

end Data

end Cert.Proof.Moe.Region

end
-- ==== Proof.RegionSeg.lean ====
/-
  The grouped product's call inside the main line: what it leaves in its result, and the rule that runs it from the
  main thread's buffers to the same buffers with the result's used blocks written.
-/
module

public import proofs.«01_k».proof.Proof.RegionRun
public import Idealize.ShloMosaic.Lib.Pipeline.RegionArraysTS

@[expose] public section

noncomputable section

namespace Cert.Proof.Moe.Region

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)

variable {F : FTy → Type} [FloatOps F]

local notation "𝕄" => MT nD τ sig (HIx 2) (Elt F) ℕ UU ℕ

/-- The pipeline's rounds: the middle component. -/
def EP : Emb UP (MT nD τ sig (HIx 2) (Elt F) ℕ UU ℕ) :=
  (Emb.inl : Emb UP (UP × Counters)).trans (embR (A := UH) (B := UP × Counters))

instance EP_landsIn : (EP : Emb UP 𝕄).LandsIn (upEmb : UEmb _ 𝕄) := by unfold EP; infer_instance

section Seg

variable (a1 : (pcfg1 (F := F)).Adm) (nu : ℕ) (h : Tabs a1.1 nu) (W : Dev nD → Valuation τ sig (Elt F)) (c : Dev nD)

/-! ## The result -/

/-- The result's written cells are the blocks below the number of used blocks. -/
def usedBlk (nu : ℕ) (β : Fin S8192x512.rank → ℕ) : Prop := β (⟨0, Nat.zero_lt_two⟩ : Fin 2) < nu

instance (nu : ℕ) : DecidablePred (usedBlk nu) := fun β => Nat.decLt _ _

/-- The result after the call. -/
def outV (V : Valuation τ sig (Elt F)) (T : S16.Idx → Elt F .i32) (nu : ℕ) : S8192x512.Idx → Elt F .f32 := fun i =>
  if (i 0).val / 512 < nu then
    outBlk V T ⟨(i 0).val / 512, by have : (i 0).val < 8192 := (i 0).isLt; omega⟩ (ix2 ⟨(i 0).val % 512, Nat.mod_lt _ (by omega)⟩ (i 1))
  else inO V i

/-- Every block as the call writes it. -/
def outG (V : Valuation τ sig (Elt F)) (T : S16.Idx → Elt F .i32) : S8192x512.Idx → Elt F .f32 := fun i =>
  outBlk V T ⟨(i 0).val / 512, by have : (i 0).val < 8192 := (i 0).isLt; omega⟩ (ix2 ⟨(i 0).val % 512, Nat.mod_lt _ (by omega)⟩ (i 1))

include h in
theorem covers : ((cfg1 a1).win 3).CoversWhere (usedBlk nu) := by
  have hp := h.pos
  have hl := h.le
  refine ⟨fun a => ?_, fun t hf => ⟨?_, fun a => Or.inl rfl⟩, fun β hβ => ?_⟩
  · match a with
    | ⟨0, _⟩ => exact Nat.zero_lt_succ 511
    | ⟨1, _⟩ => exact Nat.zero_lt_succ 511
  · rw [index3_eq a1 nu h]
    show min t.val (nu - 1) < nu
    omega
  · have hb : (β (⟨0, Nat.zero_lt_two⟩ : Fin 2)).val < nu := hβ
    have hb1 : (β (⟨1, Nat.one_lt_two⟩ : Fin 2)).val < 1 := lt_of_lt_of_eq (β (⟨1, Nat.one_lt_two⟩ : Fin 2)).isLt (by show (512 + 512 - 1) / 512 = 1; decide)
    by_cases hlast : (β (⟨0, Nat.zero_lt_two⟩ : Fin 2)).val + 1 = nu
    · refine ⟨(⟨15, by decide⟩ : Fin grid1.N), fun a => ?_, ?_⟩
      · rw [index3_eq a1 nu h]
        match a with
        | ⟨0, _⟩ => show min 15 (nu - 1) = (β (⟨0, Nat.zero_lt_two⟩ : Fin 2)).val; omega
        | ⟨1, _⟩ => show 0 = (β (⟨1, Nat.one_lt_two⟩ : Fin 2)).val; omega
      · rw [flush3_eq a1 nu h]
        exact decide_eq_true (Or.inl rfl)
    · refine ⟨(⟨(β (⟨0, Nat.zero_lt_two⟩ : Fin 2)).val, by show _ < 16; omega⟩ : Fin grid1.N), fun a => ?_, ?_⟩
      · rw [index3_eq a1 nu h]
        match a with
        | ⟨0, _⟩ => show min (β (⟨0, Nat.zero_lt_two⟩ : Fin 2)).val (nu - 1) = (β (⟨0, Nat.zero_lt_two⟩ : Fin 2)).val; omega
        | ⟨1, _⟩ => show 0 = (β (⟨1, Nat.one_lt_two⟩ : Fin 2)).val; omega
      · rw [flush3_eq a1 nu h]
        exact decide_eq_true (Or.inr (by show (β (⟨0, Nat.zero_lt_two⟩ : Fin 2)).val + 1 < nu; omega))

theorem outG_at (V : Valuation τ sig (Elt F)) (T : S16.Idx → Elt F .i32) (j : Fin 16) (y : S512x512.Idx) (i : S8192x512.Idx)
    (h0 : (i 0).val = 512 * j.val + (y 0).val) (h1 : (i 1).val = (y 1).val) : outG V T i = outBlk V T j y := by
  have hy : (y 0).val < 512 := (y 0).isLt
  unfold outG
  have ej : (⟨(i 0).val / 512, by have : (i 0).val < 8192 := (i 0).isLt; omega⟩ : Fin 16) = j := Fin.ext (by show (i 0).val / 512 = _; omega)
  rw [ej]
  refine congrArg _ (funext fun a => Fin.ext ?_)
  match a with
  | ⟨0, _⟩ => show (i 0).val % 512 = (y 0).val; omega
  | ⟨1, _⟩ => exact h1

include h in
theorem hpoint (t : Fin grid1.N) (y : (((cfg1 a1).win 3).xblock ((cfg1 a1).grid.coords t)).Idx) :
    _root_.cast (congrArg (Elt F) (((cfg1 a1).win 3).blk t).view.elt_eq.symm) ((dat a1 nu W c).after 3 t (((cfg1 a1).win 3).xinj ((cfg1 a1).grid.coords t) y))
      = outG (W c) (tabB a1) ((((cfg1 a1).win 3).blk t).view.emb y) := by
  change S512x512.Idx at y
  refine (outG_at (W c) (tabB a1) (lastLive nu t) y _ ?_ ?_).symm
  · have e := congrFun (index3_eq a1 nu h t) (⟨0, Nat.zero_lt_two⟩ : Fin 2)
    show ((cfg1 a1).win 3).index t (⟨0, Nat.zero_lt_two⟩ : Fin 2) * 512 + 1 * (y 0).val = 512 * min t.val (nu - 1) + (y 0).val
    rw [e]
    show min t.val (nu - 1) * 512 + 1 * (y 0).val = _
    omega
  · have e := congrFun (index3_eq a1 nu h t) (⟨1, Nat.one_lt_two⟩ : Fin 2)
    show ((cfg1 a1).win 3).index t (⟨1, Nat.one_lt_two⟩ : Fin 2) * 512 + 1 * (y 1).val = (y 1).val
    rw [e]
    show 0 * 512 + 1 * (y 1).val = _
    omega

include h in
theorem out_arr : (dat a1 nu W c).arrAt 3 (cfg1 a1).N = outV (W c) (tabB a1) nu := by
  haveI : DecidablePred (α := Fin ((cfg1 a1).win 3).shape.rank → ℕ) (usedBlk nu) := fun β => Nat.decLt _ _
  refine funext fun i => ?_
  exact ((dat a1 nu W c).arrAt_apply_of_coversWhere 3 (outG (W c) (tabB a1)) (P := fun i : S8192x512.Idx => (i 0).val / 512 < nu)
    (usedBlk nu) (covers a1 nu h) (fun t _ y => hpoint a1 nu h W c t y) (fun j => Iff.rfl) i)

include h in
/-- The call's result, the other arrays and every other buffer after the call. -/
theorem after_out : Pipeline.afterRegion (dat a1 nu W c) (W c) (Proc.devRef .tc main_v52) = outV (W c) (tabB a1) nu :=
  (Pipeline.afterRegion_arr (dat a1 nu W c) (W c) winFacts1.arr_inj 3).trans (out_arr a1 nu h W c)

theorem after_other (r : Ref sig .tc) (hr : r ≠ main_v52) :
    Pipeline.afterRegion (dat a1 nu W c) (W c) (Proc.devRef .tc r) = W c (Proc.devRef .tc r) := by
  refine Pipeline.afterRegion_keeps (dat a1 nu W c) (W c) winFacts1.arr_inj (fun _ => rfl) r fun w e => ?_
  match w with
  | ⟨0, _⟩ => rfl
  | ⟨1, _⟩ => rfl
  | ⟨2, _⟩ => rfl
  | ⟨3, _⟩ => exact absurd e.symm hr

include h in
/-- The call leaves every buffer but its result alone. -/
theorem after_eq : Pipeline.afterRegion (dat a1 nu W c) (W c) = Function.update (W c) (Proc.devRef .tc main_v52) (outV (W c) (tabB a1) nu) := by
  funext b
  by_cases hb : b = Proc.devRef .tc main_v52
  · subst hb
    rw [Function.update_self]
    exact after_out a1 nu h W c
  · rw [Function.update_of_ne hb]
    unfold Pipeline.afterRegion
    by_cases hw : ∃ w : Fin (cfg1 a1).W, b = Proc.devRef .tc (Pipeline.arrRef (cfg1 a1).spec w)
    · obtain ⟨w, rfl⟩ := hw
      exact after_other a1 nu W c _ fun e => hb (congrArg _ e)
    · rw [dif_neg hw]

/-! ## The call -/

/-- The main thread owes the second SparseCore call's start and nothing else, its waits recorded below that call. -/
abbrev oweA : sProp 𝕄 := iprop(∃ Wd, ⌜(K (F := F)).WBelow (c.tc : Thread nD τ) Wd 8⌝ ∗ owes (c.tc : Thread nD τ) ((K (F := F)).Otc c 1) Wd)

theorem owed_above {g : GSem nD τ sig} {i : HIx 2} (hi : 0 < (K (F := F)).Otc c 1 g i) : 0 < (K (F := F)).lev g i :=
  lt_of_lt_of_le (Nat.succ_pos _) (SparseCore.Cfg.lev_of_Otc_pos hi)

/-- The main thread's arrays and tables for the call, and the rest of its buffers. -/
abbrev restRefs : Finset (DevRef τ sig) := (Pipeline.ucRefs τ sig \ Pipeline.arrRefs spec1) \ Pipeline.tblRefs pre1

theorem held_parts (V : Valuation τ sig (Elt F)) :
    (StableHlo.held (c.tc : Thread nD τ) (Pipeline.ucRefs τ sig) V : sProp 𝕄)
      = iprop(StableHlo.held (c.tc : Thread nD τ) (Pipeline.arrRefs spec1) V ∗ StableHlo.held (c.tc : Thread nD τ) (Pipeline.tblRefs pre1) V
        ∗ StableHlo.held (c.tc : Thread nD τ) restRefs V) := by
  rw [StableHlo.held_sub_split (c.tc : Thread nD τ) (Pipeline.arrRefs_sub_ucRefs spec1 winFacts1.arr_unscoped) V,
    StableHlo.held_sub_split (c.tc : Thread nD τ) (Pipeline.tblRefs_sub_ucRefs_sdiff spec1 pre1 preFacts1.unscoped preFacts1.disj) V]

variable (hT : ∀ c k, a1.1 k = W c (Proc.devRef .tc (pre1.ref k)))

def seg : Pipeline.RegionSeg (pcfgs (F := F)) (adm a1) (fun _ c => dat a1 nu W c) (none : HIx 2) (defs₀ (F := F)) 𝒱₀ (K (F := F)).L
    ((K (F := F)).lev (nD := nD)) 0 where
  win := winFacts1.to₀
  block_pos := block_pos1
  stage_whole := stage_whole1
  K := PEmpty
  osem k := k.elim
  ho := Pipeline.OwnSemFacts.none _
  hbody c := (body_obligation a1 nu h W c).loose
  hwaits c := Pipeline.cellsWaits_of_cut (Pipeline.pin (pcfgs (F := F)) (adm a1)) (fun _ c => dat a1 nu W c) (none : HIx 2) 0 c 0 ((K (F := F)).Otc c 1)
    (fun _ => rfl) (fun _ _ => Finset.mem_univ _) (fun _ _ => le_rfl) (fun g i hi => ⟨Finset.mem_univ _, owed_above c hi⟩)
  pre c := iprop(StableHlo.held (c.tc : Thread nD τ) (Pipeline.ucRefs τ sig) (W c) ∗ oweA (F := F) c)
  post c := iprop(StableHlo.held (c.tc : Thread nD τ) (Pipeline.ucRefs τ sig) (Pipeline.afterRegion (dat a1 nu W c) (W c)) ∗ oweA (F := F) c)
  X _ := BI.emp
  Y c := tabs a1 c
  Z c := StableHlo.held (c.tc : Thread nD τ) restRefs (W c)
  hentry c := by
    rw [Pipeline.ownSems0_none, held_parts,
      ← Pipeline.arrays_held (pcfgs (F := F)) (adm a1) (fun _ c => dat a1 nu W c) 0 launch1 c ((dat a1 nu W c).share_full fun _ => rfl) ((dat a1 nu W c).arrAt · 0) (W c) (fun _ => rfl),
      ← Pipeline.prefHeld_held pre1 preFacts1.inj c a1.1 (W c) (hT c)]
    iintro ⟨⟨⟨Ha, Hpf, HR⟩, %Wd, %hWd, HO⟩, -, -⟩
    imodintro
    isplitl [Ha]; · iexact Ha
    isplitl [Hpf]; · iexact Hpf
    isplitl [HO]
    · unfold Dat.owesAt Pipeline.owesWithin
      iexists Wd; isplitr; · ipureintro; exact fun p hp => Or.inl (hWd p hp)
      iexact HO
    isplitr; · iempintro
    iexact HR
  hin c := by
    show iprop(_ ∗ _ ∗ _) ⊢ tabs a1 c
    iintro ⟨-, Hpf, -⟩
    iexact Hpf
  hout c := by
    show tabs a1 c ⊢ _
    rw [Pipeline.ownSems0_none, show Pipeline.scopedRest (pcfgs (F := F) 0).spec c = (BI.emp : sProp 𝕄) from scopedRest1_eq c]
    iintro Hpf
    isplitl [Hpf]; · iexact Hpf
    isplitr; · iempintro
    iempintro
  hexit c := by
    rw [held_parts,
      ← Pipeline.arrays_held (pcfgs (F := F)) (adm a1) (fun _ c => dat a1 nu W c) 0 launch1 c ((dat a1 nu W c).share_full fun _ => rfl) ((dat a1 nu W c).arrAt · (cfg1 a1).N) (Pipeline.afterRegion (dat a1 nu W c) (W c)) (fun w => (Pipeline.afterRegion_arr (dat a1 nu W c) (W c) winFacts1.arr_inj w).symm),
      ← Pipeline.prefHeld_held pre1 preFacts1.inj c a1.1 (Pipeline.afterRegion (dat a1 nu W c) (W c)) (fun k => (hT c k).trans (Pipeline.afterRegion_of_not_arr (dat a1 nu W c) (W c) (preFacts1.disj k)).symm),
      StableHlo.held_congr (c.tc : Thread nD τ) (S := restRefs) (V := Pipeline.afterRegion (dat a1 nu W c) (W c)) (V' := W c)
        (fun b hb => Pipeline.afterRegion_off (dat a1 nu W c) (W c) (Pipeline.ucRefs τ sig) b (Finset.mem_sdiff.mp hb).1)]
    iintro ⟨Ha, ⟨%Wd, %hWd, HO⟩, Hpf, HR⟩
    imodintro
    isplitl [Ha Hpf HR]
    · isplitl [Ha]; · iexact Ha
      isplitl [Hpf]; · iexact Hpf
      iexact HR
    iexists Wd; isplitr
    · ipureintro
      intro p hp
      rcases hWd hp with h1 | ⟨w, s, h1⟩
      · exact h1
      · subst h1; exact Nat.zero_le _
    iexact HO

theorem phinj : Function.Injective (Pipeline.cellOf (nD := nD) (τ := τ) (Pipeline.pin (pcfgs (F := F)) (adm a1))) := cellOf_inj (adm a1)

/-- The pipeline's ghost state. -/
abbrev ghost : sProp 𝕄 :=
  iprop(Pipeline.cellsGhost (Pipeline.pin (pcfgs (F := F)) (adm a1)) EP 0 c ∗ Pipeline.toksInit (Pipeline.pin (pcfgs (F := F)) (adm a1)) EP 0 c)

/-- The call, as the pipeline's own program has it. -/
abbrev callP : Prog (TpuEff nD τ sig (Elt F) (ΛP (F := F)) .tc) PUnit :=
  .op (.customCall (Pipeline.entry (0 : Fin 1)) ()) fun _ => .ret ⟨⟩

/-- The call, as the main line has it. -/
abbrev callM : Prog (TpuEff nD τ sig (Elt F) (SparseCore.Sig (ΛP (F := F)) 2) .tc) PUnit :=
  Prog.lift (.customCall (SparseCore.inner (Pipeline.entry (0 : Fin 1))) ())

theorem callM_eq : callM (F := F) = SparseCore.liftProg (callP (F := F)) := rfl

/-- What the main thread holds before the call, and after it. -/
abbrev callPre : sProp 𝕄 := iprop(boundary (c.tc : Thread nD τ) ∗ StableHlo.held (c.tc : Thread nD τ) (Pipeline.ucRefs τ sig) (W c) ∗ oweA (F := F) c
  ∗ levAts (K (F := F)).L ((K (F := F)).lev (nD := nD)) ∗ ghost a1 c)
abbrev callPost : sProp 𝕄 := iprop(boundary (c.tc : Thread nD τ)
  ∗ StableHlo.held (c.tc : Thread nD τ) (Pipeline.ucRefs τ sig) (Function.update (W c) (Proc.devRef .tc main_v52) (outV (W c) (tabB a1) nu))
  ∗ oweA (F := F) c)
abbrev segPre : sProp 𝕄 := (seg a1 nu h W hT).pre c
abbrev segPost : sProp 𝕄 := (seg a1 nu h W hT).post c
abbrev callK : sProp 𝕄 := wp frame (wpE (D (F := F)) 𝒱 (c.tc : Thread nD τ) none) Set.univ
  (.ret ⟨⟩ : Prog (TpuEff nD τ sig (Elt F) (ΛP (F := F)) .tc) PUnit) fun _ => callPost a1 nu W c

include h hT in
theorem call_enter : callPre a1 W c ⊢ iprop((iprop(boundary (c.tc : Thread nD τ) ∗ segPost a1 nu h W c hT) -∗ callK a1 nu W c)
    ∗ boundary (c.tc : Thread nD τ) ∗ segPre a1 nu h W c hT ∗ levAts (K (F := F)).L ((K (F := F)).lev (nD := nD))
    ∗ Pipeline.cellsGhost (Pipeline.pin (pcfgs (F := F)) (adm a1)) EP 0 c ∗ Pipeline.toksInit (Pipeline.pin (pcfgs (F := F)) (adm a1)) EP 0 c) := by
  have e : segPost a1 nu h W c hT = iprop(StableHlo.held (c.tc : Thread nD τ) (Pipeline.ucRefs τ sig)
      (Function.update (W c) (Proc.devRef .tc main_v52) (outV (W c) (tabB a1) nu)) ∗ oweA (F := F) c) := by
    rw [← after_eq a1 nu h W c]; rfl
  have e' : segPre a1 nu h W c hT = iprop(StableHlo.held (c.tc : Thread nD τ) (Pipeline.ucRefs τ sig) (W c) ∗ oweA (F := F) c) := rfl
  rw [e, e', show callK a1 nu W c = _ from wp_ret _ _ _ _ _]
  iintro ⟨Hb, Hh, HO, HL, Hg, Ht⟩
  isplitr
  · iintro ⟨Hb, Hh, HO⟩
    imodintro
    isplitl [Hb]; · iexact Hb
    isplitl [Hh]; · iexact Hh
    iexact HO
  isplitl [Hb]; · iexact Hb
  isplitl [Hh HO]
  · isplitl [Hh]; · iexact Hh
    iexact HO
  isplitl [HL]; · iexact HL
  isplitl [Hg]; · iexact Hg
  iexact Ht

include h hT in
/-- The call runs in the main line: its result's used blocks are written, the other buffers are as they were. -/
theorem call_wp : callPre a1 W c ⊢ wp frame (wpE ((K (F := F)).defs (D (F := F))) 𝒱 (c.tc : Thread nD τ) none) Set.univ (callM (F := F))
    fun _ => callPost a1 nu W c := by
  rw [callM_eq]
  refine BI.Entails.trans ?_ ((K (F := F)).wp_liftProg (D (F := F)) 𝒱 (c.tc : Thread nD τ) Set.univ none (callP (F := F)) _)
  exact (call_enter a1 nu h W c hT).trans (Pipeline.RegionSeg.wp (pcfgs (F := F)) (adm a1) (fun _ c => dat a1 nu W c) (none : HIx 2) (phinj a1) EP (defs₀ (F := F)) 𝒱₀
    (K (F := F)).L ((K (F := F)).lev (nD := nD)) (seg a1 nu h W hT) c none (fun _ hu => absurd hu (by simp)) _ _)

end Seg

end Cert.Proof.Moe.Region

end
-- ==== Proof.Host.lean ====
/-
  The main line's host operations as lists, one per stretch between the calls; the line as those stretches and calls in
  order; and what each stretch leaves in the buffers that are read later.
-/
module

public import proofs.«01_k».proof.Proof.MetaDefs
public import proofs.«01_k».proof.Proof.RegionSeg

@[expose] public section

set_option maxRecDepth 65536

noncomputable section

namespace Cert.Proof.Moe.Host

open Cert.KernelIdeal Cert.KernelIdeal.Gen

open Idealize.ShloMosaic Idealize.ShloMosaic.TcCoe
open Idealize.SL Idealize.SL.Sem
open Idealize.ShloMosaic.StableHlo (after seq)
open Cert.Proof.Moe.Meta Cert.Proof.Moe.Region

variable {F : FTy → Type} [FloatOps F]

/-- The one-hot rows and their running counts. -/
abbrev opsA1 : List (HloOp τ sig (Elt F)) :=
  [ StableHlo.unary main_arg1 main_v0 (broadcastInDim S4096x1 ![0] bcast_S4096_S4096x1_0 : (⟨S4096, .i32⟩ : BufTy).Contents (Elt F) → (⟨S4096x1, .i32⟩ : BufTy).Contents (Elt F)),
    StableHlo.nullary main_v1 (iotaInDim S8 32 0),
    StableHlo.unary main_v1 main_v2 (broadcastInDim S1x8 ![1] bcast_S8_S1x8_1 : (⟨S8, .i32⟩ : BufTy).Contents (Elt F) → (⟨S1x8, .i32⟩ : BufTy).Contents (Elt F)),
    StableHlo.unary main_v0 main_v3 (broadcastInDim S4096x8 ![0, 1] bcast_S4096x1_S4096x8_0_1 : (⟨S4096x1, .i32⟩ : BufTy).Contents (Elt F) → (⟨S4096x8, .i32⟩ : BufTy).Contents (Elt F)),
    StableHlo.unary main_v2 main_v4 (broadcastInDim S4096x8 ![0, 1] bcast_S1x8_S4096x8_0_1 : (⟨S1x8, .i32⟩ : BufTy).Contents (Elt F) → (⟨S4096x8, .i32⟩ : BufTy).Contents (Elt F)),
    StableHlo.binary main_v3 main_v4 main_v5 (cmpi .eq : (⟨S4096x8, .i32⟩ : BufTy).Contents (Elt F) → (⟨S4096x8, .i32⟩ : BufTy).Contents (Elt F) → (⟨S4096x8, .i1⟩ : BufTy).Contents (Elt F)),
    StableHlo.unary main_v5 main_v6 ((extui 32 · natLt_1_32) : (⟨S4096x8, .i1⟩ : BufTy).Contents (Elt F) → (⟨S4096x8, .i32⟩ : BufTy).Contents (Elt F)),
    StableHlo.nullary main_call0_call0_c (constantI S_ 32 0#32),
    StableHlo.unary main_call0_call0_c main_call0_call0_v0 ((broadcastInDim S_ ![] bcast_S_S_) : (⟨S_, .i32⟩ : BufTy).Contents (Elt F) → (⟨S_, .i32⟩ : BufTy).Contents (Elt F)),
    StableHlo.binary main_v6 main_call0_call0_v0 main_v7 ((fun x v => Host.reduceWindow IntOp.addi ![4096, 1] ![1, 1] ![4095, 0] ![0, 0] x v reduceWindows_S4096x8_S4096x8_w4096s1p4095_0_w1s1p0_0 h_S_) : (⟨S4096x8, .i32⟩ : BufTy).Contents (Elt F) → (⟨S_, .i32⟩ : BufTy).Contents (Elt F) → (⟨S4096x8, .i32⟩ : BufTy).Contents (Elt F)) ]

abbrev opsA1_W : List (Ref sig .tc) := [main_v0, main_v1, main_v2, main_v3, main_v4, main_v5, main_v6, main_call0_call0_c, main_call0_call0_v0, main_v7]

theorem opsA1_sub : (opsA1 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub ..⟩

theorem opsA1_writes : (opsA1 : List (HloOp τ sig (Elt F))).Forall fun op => op.writes ⊆ (opsA1_W.map (Proc.devRef (τ := τ) .tc)).toFinset :=
  StableHlo.forall_writes_sub_of_map rfl

theorem opsA1_fresh : (opsA1 : List (HloOp τ sig (Elt F))).Forall fun op => op.fresh = ∅ :=
  StableHlo.forall_fresh_of_map rfl

/-- Ranks, counts and the rounded-up dividend. -/
abbrev opsA2 : List (HloOp τ sig (Elt F)) :=
  [ StableHlo.nullary main_c (constantI S_ 32 1#32),
    StableHlo.unary main_c main_v8 (broadcastInDim S4096x8 ![] bcast_S_S4096x8 : (⟨S_, .i32⟩ : BufTy).Contents (Elt F) → (⟨S4096x8, .i32⟩ : BufTy).Contents (Elt F)),
    StableHlo.binary main_v7 main_v8 main_v9 (subi : (⟨S4096x8, .i32⟩ : BufTy).Contents (Elt F) → (⟨S4096x8, .i32⟩ : BufTy).Contents (Elt F) → (⟨S4096x8, .i32⟩ : BufTy).Contents (Elt F)),
    StableHlo.binary main_v6 main_v9 main_v10 (muli : (⟨S4096x8, .i32⟩ : BufTy).Contents (Elt F) → (⟨S4096x8, .i32⟩ : BufTy).Contents (Elt F) → (⟨S4096x8, .i32⟩ : BufTy).Contents (Elt F)),
    StableHlo.nullary main_c_0 (constantI S_ 32 0#32),
    StableHlo.binary main_v10 main_c_0 main_v11 ((fun x v => Host.reduce IntOp.addi x v reducesTo_S4096x8_S4096_d1 h_S_) : (⟨S4096x8, .i32⟩ : BufTy).Contents (Elt F) → (⟨S_, .i32⟩ : BufTy).Contents (Elt F) → (⟨S4096, .i32⟩ : BufTy).Contents (Elt F)),
    StableHlo.unary main_v7 main_v12 ((extractStridedSlice S1x8 ![4095, 0] · slices_S4096x8_S1x8_4095_0) : (⟨S4096x8, .i32⟩ : BufTy).Contents (Elt F) → (⟨S1x8, .i32⟩ : BufTy).Contents (Elt F)),
    StableHlo.reshape main_v12 main_v13 (rfl : (.i32 : EltTy) = .i32) shapeCasts_S1x8_S8,
    StableHlo.nullary main_c_1 (constantI S_ 32 512#32),
    StableHlo.unary main_c_1 main_v14 (broadcastInDim S8 ![] bcast_S_S8 : (⟨S_, .i32⟩ : BufTy).Contents (Elt F) → (⟨S8, .i32⟩ : BufTy).Contents (Elt F)),
    StableHlo.binary main_v13 main_v14 main_v15 (addi : (⟨S8, .i32⟩ : BufTy).Contents (Elt F) → (⟨S8, .i32⟩ : BufTy).Contents (Elt F) → (⟨S8, .i32⟩ : BufTy).Contents (Elt F)),
    StableHlo.nullary main_c_2 (constantI S_ 32 1#32),
    StableHlo.unary main_c_2 main_v16 (broadcastInDim S8 ![] bcast_S_S8 : (⟨S_, .i32⟩ : BufTy).Contents (Elt F) → (⟨S8, .i32⟩ : BufTy).Contents (Elt F)),
    StableHlo.binary main_v15 main_v16 main_v17 (subi : (⟨S8, .i32⟩ : BufTy).Contents (Elt F) → (⟨S8, .i32⟩ : BufTy).Contents (Elt F) → (⟨S8, .i32⟩ : BufTy).Contents (Elt F)),
    StableHlo.nullary main_c_3 (constantI S_ 32 512#32) ]

abbrev opsA2_W : List (Ref sig .tc) := [main_c, main_v8, main_v9, main_v10, main_c_0, main_v11, main_v12, main_v13, main_c_1, main_v14, main_v15, main_c_2, main_v16, main_v17, main_c_3]

theorem opsA2_sub : (opsA2 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.nullary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub ..⟩

theorem opsA2_writes : (opsA2 : List (HloOp τ sig (Elt F))).Forall fun op => op.writes ⊆ (opsA2_W.map (Proc.devRef (τ := τ) .tc)).toFinset :=
  StableHlo.forall_writes_sub_of_map rfl

theorem opsA2_fresh : (opsA2 : List (HloOp τ sig (Elt F))).Forall fun op => op.fresh = ∅ :=
  StableHlo.forall_fresh_of_map rfl

/-- The floor division by 512. -/
abbrev opsA3 : List (HloOp τ sig (Elt F)) :=
  [ StableHlo.unary main_c_3 main_call1_v0 (id : (⟨S_, .i32⟩ : BufTy).Contents (Elt F) → (⟨S_, .i32⟩ : BufTy).Contents (Elt F)),
    StableHlo.unary main_call1_v0 main_call1_v1 ((broadcastInDim S8 ![] bcast_S_S8) : (⟨S_, .i32⟩ : BufTy).Contents (Elt F) → (⟨S8, .i32⟩ : BufTy).Contents (Elt F)),
    StableHlo.binary main_v17 main_call1_v1 main_call1_v2 (Host.divsi : (⟨S8, .i32⟩ : BufTy).Contents (Elt F) → (⟨S8, .i32⟩ : BufTy).Contents (Elt F) → (⟨S8, .i32⟩ : BufTy).Contents (Elt F)),
    StableHlo.unary main_v17 main_call1_v3 (signi : (⟨S8, .i32⟩ : BufTy).Contents (Elt F) → (⟨S8, .i32⟩ : BufTy).Contents (Elt F)),
    StableHlo.unary main_call1_v0 main_call1_v4 (signi : (⟨S_, .i32⟩ : BufTy).Contents (Elt F) → (⟨S_, .i32⟩ : BufTy).Contents (Elt F)),
    StableHlo.unary main_call1_v4 main_call1_v5 ((broadcastInDim S8 ![] bcast_S_S8) : (⟨S_, .i32⟩ : BufTy).Contents (Elt F) → (⟨S8, .i32⟩ : BufTy).Contents (Elt F)),
    StableHlo.binary main_call1_v3 main_call1_v5 main_call1_v6 ((cmpi .ne) : (⟨S8, .i32⟩ : BufTy).Contents (Elt F) → (⟨S8, .i32⟩ : BufTy).Contents (Elt F) → (⟨S8, .i1⟩ : BufTy).Contents (Elt F)),
    StableHlo.unary main_call1_v0 main_call1_v7 ((broadcastInDim S8 ![] bcast_S_S8) : (⟨S_, .i32⟩ : BufTy).Contents (Elt F) → (⟨S8, .i32⟩ : BufTy).Contents (Elt F)),
    StableHlo.binary main_v17 main_call1_v7 main_call1_v8 (Host.remsi : (⟨S8, .i32⟩ : BufTy).Contents (Elt F) → (⟨S8, .i32⟩ : BufTy).Contents (Elt F) → (⟨S8, .i32⟩ : BufTy).Contents (Elt F)),
    StableHlo.nullary main_call1_c (constantI S_ 32 0#32),
    StableHlo.unary main_call1_c main_call1_v9 ((broadcastInDim S8 ![] bcast_S_S8) : (⟨S_, .i32⟩ : BufTy).Contents (Elt F) → (⟨S8, .i32⟩ : BufTy).Contents (Elt F)),
    StableHlo.binary main_call1_v8 main_call1_v9 main_call1_v10 ((cmpi .ne) : (⟨S8, .i32⟩ : BufTy).Contents (Elt F) → (⟨S8, .i32⟩ : BufTy).Contents (Elt F) → (⟨S8, .i1⟩ : BufTy).Contents (Elt F)),
    StableHlo.binary main_call1_v6 main_call1_v10 main_call1_v11 (andi : (⟨S8, .i1⟩ : BufTy).Contents (Elt F) → (⟨S8, .i1⟩ : BufTy).Contents (Elt F) → (⟨S8, .i1⟩ : BufTy).Contents (Elt F)),
    StableHlo.nullary main_call1_c_0 (constantI S_ 32 1#32),
    StableHlo.unary main_call1_c_0 main_call1_v12 ((broadcastInDim S8 ![] bcast_S_S8) : (⟨S_, .i32⟩ : BufTy).Contents (Elt F) → (⟨S8, .i32⟩ : BufTy).Contents (Elt F)),
    StableHlo.binary main_call1_v2 main_call1_v12 main_call1_v13 (subi : (⟨S8, .i32⟩ : BufTy).Contents (Elt F) → (⟨S8, .i32⟩ : BufTy).Contents (Elt F) → (⟨S8, .i32⟩ : BufTy).Contents (Elt F)),
    StableHlo.ternary main_call1_v11 main_call1_v13 main_call1_v2 main_v18 (select : (⟨S8, .i1⟩ : BufTy).Contents (Elt F) → (⟨S8, .i32⟩ : BufTy).Contents (Elt F) → (⟨S8, .i32⟩ : BufTy).Contents (Elt F) → (⟨S8, .i32⟩ : BufTy).Contents (Elt F)) ]

abbrev opsA3_W : List (Ref sig .tc) := [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v18]

theorem opsA3_sub : (opsA3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩

theorem opsA3_writes : (opsA3 : List (HloOp τ sig (Elt F))).Forall fun op => op.writes ⊆ (opsA3_W.map (Proc.devRef (τ := τ) .tc)).toFinset :=
  StableHlo.forall_writes_sub_of_map rfl

theorem opsA3_fresh : (opsA3 : List (HloOp τ sig (Elt F))).Forall fun op => op.fresh = ∅ :=
  StableHlo.forall_fresh_of_map rfl

/-- The running block counts and the positions. -/
abbrev opsA4 : List (HloOp τ sig (Elt F)) :=
  [ StableHlo.nullary main_call2_call0_c (constantI S_ 32 0#32),
    StableHlo.unary main_call2_call0_c main_call2_call0_v0 ((broadcastInDim S_ ![] bcast_S_S_) : (⟨S_, .i32⟩ : BufTy).Contents (Elt F) → (⟨S_, .i32⟩ : BufTy).Contents (Elt F)),
    StableHlo.binary main_v18 main_call2_call0_v0 main_v19 ((fun x v => Host.reduceWindow IntOp.addi ![8] ![1] ![7] ![0] x v reduceWindows_S8_S8_w8s1p7_0 h_S_) : (⟨S8, .i32⟩ : BufTy).Contents (Elt F) → (⟨S_, .i32⟩ : BufTy).Contents (Elt F) → (⟨S8, .i32⟩ : BufTy).Contents (Elt F)),
    StableHlo.binary main_v19 main_v18 main_v20 (subi : (⟨S8, .i32⟩ : BufTy).Contents (Elt F) → (⟨S8, .i32⟩ : BufTy).Contents (Elt F) → (⟨S8, .i32⟩ : BufTy).Contents (Elt F)),
    StableHlo.nullary main_c_4 (constantI S_ 32 512#32),
    StableHlo.unary main_c_4 main_v21 (broadcastInDim S8 ![] bcast_S_S8 : (⟨S_, .i32⟩ : BufTy).Contents (Elt F) → (⟨S8, .i32⟩ : BufTy).Contents (Elt F)),
    StableHlo.binary main_v21 main_v20 main_v22 (muli : (⟨S8, .i32⟩ : BufTy).Contents (Elt F) → (⟨S8, .i32⟩ : BufTy).Contents (Elt F) → (⟨S8, .i32⟩ : BufTy).Contents (Elt F)),
    StableHlo.unary main_v22 main_v23 (broadcastInDim S1x8 ![1] bcast_S8_S1x8_1 : (⟨S8, .i32⟩ : BufTy).Contents (Elt F) → (⟨S1x8, .i32⟩ : BufTy).Contents (Elt F)),
    StableHlo.unary main_v23 main_v24 (broadcastInDim S4096x8 ![0, 1] bcast_S1x8_S4096x8_0_1 : (⟨S1x8, .i32⟩ : BufTy).Contents (Elt F) → (⟨S4096x8, .i32⟩ : BufTy).Contents (Elt F)),
    StableHlo.binary main_v6 main_v24 main_v25 (muli : (⟨S4096x8, .i32⟩ : BufTy).Contents (Elt F) → (⟨S4096x8, .i32⟩ : BufTy).Contents (Elt F) → (⟨S4096x8, .i32⟩ : BufTy).Contents (Elt F)),
    StableHlo.nullary main_c_5 (constantI S_ 32 0#32),
    StableHlo.binary main_v25 main_c_5 main_v26 ((fun x v => Host.reduce IntOp.addi x v reducesTo_S4096x8_S4096_d1 h_S_) : (⟨S4096x8, .i32⟩ : BufTy).Contents (Elt F) → (⟨S_, .i32⟩ : BufTy).Contents (Elt F) → (⟨S4096, .i32⟩ : BufTy).Contents (Elt F)),
    StableHlo.binary main_v26 main_v11 main_v27 (addi : (⟨S4096, .i32⟩ : BufTy).Contents (Elt F) → (⟨S4096, .i32⟩ : BufTy).Contents (Elt F) → (⟨S4096, .i32⟩ : BufTy).Contents (Elt F)),
    StableHlo.unary main_v19 main_v28 ((extractStridedSlice S1 ![7] · slices_S8_S1_7) : (⟨S8, .i32⟩ : BufTy).Contents (Elt F) → (⟨S1, .i32⟩ : BufTy).Contents (Elt F)) ]

abbrev opsA4_W : List (Ref sig .tc) := [main_call2_call0_c, main_call2_call0_v0, main_v19, main_v20, main_c_4, main_v21, main_v22, main_v23, main_v24, main_v25, main_c_5, main_v26, main_v27, main_v28]

theorem opsA4_sub : (opsA4 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.binary_bufs_sub .., StableHlo.unary_bufs_sub ..⟩

theorem opsA4_writes : (opsA4 : List (HloOp τ sig (Elt F))).Forall fun op => op.writes ⊆ (opsA4_W.map (Proc.devRef (τ := τ) .tc)).toFinset :=
  StableHlo.forall_writes_sub_of_map rfl

theorem opsA4_fresh : (opsA4 : List (HloOp τ sig (Elt F))).Forall fun op => op.fresh = ∅ :=
  StableHlo.forall_fresh_of_map rfl

/-- The experts of the blocks. -/
abbrev opsA5 : List (HloOp τ sig (Elt F)) :=
  [ StableHlo.unary main_v19 main_v29 (broadcastInDim S1x8 ![1] bcast_S8_S1x8_1 : (⟨S8, .i32⟩ : BufTy).Contents (Elt F) → (⟨S1x8, .i32⟩ : BufTy).Contents (Elt F)),
    StableHlo.nullary main_v30 (iotaInDim S16 32 0),
    StableHlo.unary main_v30 main_v31 (broadcastInDim S16x1 ![0] bcast_S16_S16x1_0 : (⟨S16, .i32⟩ : BufTy).Contents (Elt F) → (⟨S16x1, .i32⟩ : BufTy).Contents (Elt F)),
    StableHlo.unary main_v29 main_v32 (broadcastInDim S16x8 ![0, 1] bcast_S1x8_S16x8_0_1 : (⟨S1x8, .i32⟩ : BufTy).Contents (Elt F) → (⟨S16x8, .i32⟩ : BufTy).Contents (Elt F)),
    StableHlo.unary main_v31 main_v33 (broadcastInDim S16x8 ![0, 1] bcast_S16x1_S16x8_0_1 : (⟨S16x1, .i32⟩ : BufTy).Contents (Elt F) → (⟨S16x8, .i32⟩ : BufTy).Contents (Elt F)),
    StableHlo.binary main_v32 main_v33 main_v34 (cmpi .sle : (⟨S16x8, .i32⟩ : BufTy).Contents (Elt F) → (⟨S16x8, .i32⟩ : BufTy).Contents (Elt F) → (⟨S16x8, .i1⟩ : BufTy).Contents (Elt F)),
    StableHlo.unary main_v34 main_v35 ((extui 32 · natLt_1_32) : (⟨S16x8, .i1⟩ : BufTy).Contents (Elt F) → (⟨S16x8, .i32⟩ : BufTy).Contents (Elt F)),
    StableHlo.nullary main_c_6 (constantI S_ 32 0#32),
    StableHlo.binary main_v35 main_c_6 main_v36 ((fun x v => Host.reduce IntOp.addi x v reducesTo_S16x8_S16_d1 h_S_) : (⟨S16x8, .i32⟩ : BufTy).Contents (Elt F) → (⟨S_, .i32⟩ : BufTy).Contents (Elt F) → (⟨S16, .i32⟩ : BufTy).Contents (Elt F)),
    StableHlo.nullary main_c_7 (constantI S_ 32 7#32),
    StableHlo.unary main_c_7 main_v37 (broadcastInDim S16 ![] bcast_S_S16 : (⟨S_, .i32⟩ : BufTy).Contents (Elt F) → (⟨S16, .i32⟩ : BufTy).Contents (Elt F)),
    StableHlo.binary main_v36 main_v37 main_v38 (minsi : (⟨S16, .i32⟩ : BufTy).Contents (Elt F) → (⟨S16, .i32⟩ : BufTy).Contents (Elt F) → (⟨S16, .i32⟩ : BufTy).Contents (Elt F)) ]

abbrev opsA5_W : List (Ref sig .tc) := [main_v29, main_v30, main_v31, main_v32, main_v33, main_v34, main_v35, main_c_6, main_v36, main_c_7, main_v37, main_v38]

theorem opsA5_sub : (opsA5 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.unary_bufs_sub .., StableHlo.binary_bufs_sub .., StableHlo.unary_bufs_sub .., StableHlo.nullary_bufs_sub .., StableHlo.binary_bufs_sub .., StableHlo.nullary_bufs_sub .., StableHlo.unary_bufs_sub .., StableHlo.binary_bufs_sub ..⟩

theorem opsA5_writes : (opsA5 : List (HloOp τ sig (Elt F))).Forall fun op => op.writes ⊆ (opsA5_W.map (Proc.devRef (τ := τ) .tc)).toFinset :=
  StableHlo.forall_writes_sub_of_map rfl

theorem opsA5_fresh : (opsA5 : List (HloOp τ sig (Elt F))).Forall fun op => op.fresh = ∅ :=
  StableHlo.forall_fresh_of_map rfl

/-- The physical rows of the scatter. -/
abbrev opsA6 : List (HloOp τ sig (Elt F)) :=
  [ StableHlo.unary main_v27 main_v39 (broadcastInDim S4096x1 ![0] bcast_S4096_S4096x1_0 : (⟨S4096, .i32⟩ : BufTy).Contents (Elt F) → (⟨S4096x1, .i32⟩ : BufTy).Contents (Elt F)),
    StableHlo.nullary main_c_8 (constantI S_ 32 4#32),
    StableHlo.unary main_c_8 main_v40 (broadcastInDim S4096x1 ![] bcast_S_S4096x1 : (⟨S_, .i32⟩ : BufTy).Contents (Elt F) → (⟨S4096x1, .i32⟩ : BufTy).Contents (Elt F)),
    StableHlo.binary main_v40 main_v39 main_v41 (muli : (⟨S4096x1, .i32⟩ : BufTy).Contents (Elt F) → (⟨S4096x1, .i32⟩ : BufTy).Contents (Elt F) → (⟨S4096x1, .i32⟩ : BufTy).Contents (Elt F)),
    StableHlo.nullary main_v42 (iotaInDim S4 32 0),
    StableHlo.unary main_v42 main_v43 (broadcastInDim S1x4 ![1] bcast_S4_S1x4_1 : (⟨S4, .i32⟩ : BufTy).Contents (Elt F) → (⟨S1x4, .i32⟩ : BufTy).Contents (Elt F)),
    StableHlo.unary main_v41 main_v44 (broadcastInDim S4096x4 ![0, 1] bcast_S4096x1_S4096x4_0_1 : (⟨S4096x1, .i32⟩ : BufTy).Contents (Elt F) → (⟨S4096x4, .i32⟩ : BufTy).Contents (Elt F)),
    StableHlo.unary main_v43 main_v45 (broadcastInDim S4096x4 ![0, 1] bcast_S1x4_S4096x4_0_1 : (⟨S1x4, .i32⟩ : BufTy).Contents (Elt F) → (⟨S4096x4, .i32⟩ : BufTy).Contents (Elt F)),
    StableHlo.binary main_v44 main_v45 main_v46 (addi : (⟨S4096x4, .i32⟩ : BufTy).Contents (Elt F) → (⟨S4096x4, .i32⟩ : BufTy).Contents (Elt F) → (⟨S4096x4, .i32⟩ : BufTy).Contents (Elt F)),
    StableHlo.reshape main_v46 main_v47 (rfl : (.i32 : EltTy) = .i32) shapeCasts_S4096x4_S16384,
    StableHlo.reshape main_arg0 main_v48 (rfl : (.f32 : EltTy) = .f32) shapeCasts_S4096x1024_S16384x2x128 ]

abbrev opsA6_W : List (Ref sig .tc) := [main_v39, main_c_8, main_v40, main_v41, main_v42, main_v43, main_v44, main_v45, main_v46, main_v47, main_v48]

theorem opsA6_sub : (opsA6 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.reshape_bufs_sub ..⟩

theorem opsA6_writes : (opsA6 : List (HloOp τ sig (Elt F))).Forall fun op => op.writes ⊆ (opsA6_W.map (Proc.devRef (τ := τ) .tc)).toFinset :=
  StableHlo.forall_writes_sub_of_map rfl

theorem opsA6_fresh : (opsA6 : List (HloOp τ sig (Elt F))).Forall fun op => op.fresh = ∅ :=
  StableHlo.forall_fresh_of_map rfl

/-- The two reshapes before the grouped product. -/
abbrev opsB : List (HloOp τ sig (Elt F)) :=
  [ StableHlo.reshape main_v49 main_v50 (rfl : (.f32 : EltTy) = .f32) shapeCasts_S32768x2x128_S8192x1024,
    StableHlo.reshape main_arg3 main_v51 (rfl : (.f32 : EltTy) = .f32) shapeCasts_S8x512_S8x1x512 ]

abbrev opsB_W : List (Ref sig .tc) := [main_v50, main_v51]

theorem opsB_sub : (opsB : List (HloOp τ sig (Elt F))).Forall fun op => op.bufs ⊆ StableHlo.tcRefs τ sig :=
  ⟨StableHlo.reshape_bufs_sub .., StableHlo.reshape_bufs_sub ..⟩

theorem opsB_writes : (opsB : List (HloOp τ sig (Elt F))).Forall fun op => op.writes ⊆ (opsB_W.map (Proc.devRef (τ := τ) .tc)).toFinset :=
  StableHlo.forall_writes_sub_of_map rfl

theorem opsB_fresh : (opsB : List (HloOp τ sig (Elt F))).Forall fun op => op.fresh = ∅ :=
  StableHlo.forall_fresh_of_map rfl

/-- The physical rows of the combine. -/
abbrev opsC : List (HloOp τ sig (Elt F)) :=
  [ StableHlo.unary main_v27 main_v53 (broadcastInDim S4096x1 ![0] bcast_S4096_S4096x1_0 : (⟨S4096, .i32⟩ : BufTy).Contents (Elt F) → (⟨S4096x1, .i32⟩ : BufTy).Contents (Elt F)),
    StableHlo.nullary main_c_9 (constantI S_ 32 2#32),
    StableHlo.unary main_c_9 main_v54 (broadcastInDim S4096x1 ![] bcast_S_S4096x1 : (⟨S_, .i32⟩ : BufTy).Contents (Elt F) → (⟨S4096x1, .i32⟩ : BufTy).Contents (Elt F)),
    StableHlo.binary main_v54 main_v53 main_v55 (muli : (⟨S4096x1, .i32⟩ : BufTy).Contents (Elt F) → (⟨S4096x1, .i32⟩ : BufTy).Contents (Elt F) → (⟨S4096x1, .i32⟩ : BufTy).Contents (Elt F)),
    StableHlo.nullary main_v56 (iotaInDim S2 32 0),
    StableHlo.unary main_v56 main_v57 (broadcastInDim S1x2 ![1] bcast_S2_S1x2_1 : (⟨S2, .i32⟩ : BufTy).Contents (Elt F) → (⟨S1x2, .i32⟩ : BufTy).Contents (Elt F)),
    StableHlo.unary main_v55 main_v58 (broadcastInDim S4096x2 ![0, 1] bcast_S4096x1_S4096x2_0_1 : (⟨S4096x1, .i32⟩ : BufTy).Contents (Elt F) → (⟨S4096x2, .i32⟩ : BufTy).Contents (Elt F)),
    StableHlo.unary main_v57 main_v59 (broadcastInDim S4096x2 ![0, 1] bcast_S1x2_S4096x2_0_1 : (⟨S1x2, .i32⟩ : BufTy).Contents (Elt F) → (⟨S4096x2, .i32⟩ : BufTy).Contents (Elt F)),
    StableHlo.binary main_v58 main_v59 main_v60 (addi : (⟨S4096x2, .i32⟩ : BufTy).Contents (Elt F) → (⟨S4096x2, .i32⟩ : BufTy).Contents (Elt F) → (⟨S4096x2, .i32⟩ : BufTy).Contents (Elt F)),
    StableHlo.reshape main_v60 main_v61 (rfl : (.i32 : EltTy) = .i32) shapeCasts_S4096x2_S8192,
    StableHlo.reshape main_v52 main_v62 (rfl : (.f32 : EltTy) = .f32) shapeCasts_S8192x512_S16384x2x128 ]

abbrev opsC_W : List (Ref sig .tc) := [main_v53, main_c_9, main_v54, main_v55, main_v56, main_v57, main_v58, main_v59, main_v60, main_v61, main_v62]

theorem opsC_sub : (opsC : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.reshape_bufs_sub ..⟩

theorem opsC_writes : (opsC : List (HloOp τ sig (Elt F))).Forall fun op => op.writes ⊆ (opsC_W.map (Proc.devRef (τ := τ) .tc)).toFinset :=
  StableHlo.forall_writes_sub_of_map rfl

theorem opsC_fresh : (opsC : List (HloOp τ sig (Elt F))).Forall fun op => op.fresh = ∅ :=
  StableHlo.forall_fresh_of_map rfl

/-- The result. -/
abbrev opsD : List (HloOp τ sig (Elt F)) :=
  [ StableHlo.reshape main_v63 main_v64 (rfl : (.f32 : EltTy) = .f32) shapeCasts_S8192x2x128_S4096x512 ]

abbrev opsD_W : List (Ref sig .tc) := [main_v64]

theorem opsD_sub : (opsD : List (HloOp τ sig (Elt F))).Forall fun op => op.bufs ⊆ StableHlo.tcRefs τ sig :=
  StableHlo.reshape_bufs_sub ..

theorem opsD_writes : (opsD : List (HloOp τ sig (Elt F))).Forall fun op => op.writes ⊆ (opsD_W.map (Proc.devRef (τ := τ) .tc)).toFinset :=
  StableHlo.forall_writes_sub_of_map rfl

theorem opsD_fresh : (opsD : List (HloOp τ sig (Elt F))).Forall fun op => op.fresh = ∅ :=
  StableHlo.forall_fresh_of_map rfl

/-- The whole first stretch. -/
abbrev opsA : List (HloOp τ sig (Elt F)) := opsA1 ++ (opsA2 ++ (opsA3 ++ (opsA4 ++ (opsA5 ++ opsA6))))

theorem part0_eq (d : Dev nD) : main_part0 (F := F) d = StableHlo.seqK opsA (sc.run d 0) := by
  chain_rfl

theorem part1_eq (d : Dev nD) : main_part1 (F := F) d =
    StableHlo.seqK opsB (callM >>= fun _ => StableHlo.seqK opsC (sc.run d 1 >>= fun _ => seq opsD)) := by
  chain_rfl

/-- The main line: the stretches and the calls, in order. -/
theorem main_eq (d : Dev nD) : (main (F := F) d) =
    (seq opsA >>= fun _ => sc.run d 0 >>= fun _ => seq opsB >>= fun _ => callM >>= fun _ => seq opsC >>= fun _ =>
      sc.run d 1 >>= fun _ => seq opsD) := by
  unfold main
  rw [part0_eq, part1_eq, ← StableHlo.seq_bind_seqK, ← StableHlo.seq_bind_seqK, ← StableHlo.seq_bind_seqK, bind_assoc]

theorem after_app (l₁ l₂ : List (HloOp τ sig (Elt F))) (V : Valuation τ sig (Elt F)) : after (l₁ ++ l₂) V = after l₂ (after l₁ V) := by
  induction l₁ generalizing V with
  | nil => rfl
  | cons op l ih => exact ih _

/-! ## What each stretch leaves -/

section Values

variable (V : Valuation τ sig (Elt F))

theorem A1_v6 : after opsA1 V main_v6 = oneHot (V main_arg1) := by
  after_results
  try rfl
theorem A1_v7 : after opsA1 V main_v7 = cums (V main_arg1) := by
  after_results
  try rfl

theorem A2_v11 : after opsA2 V main_v11 = Host.reduce IntOp.addi (muli (V main_v6) (subi (V main_v7)
      (broadcastInDim S4096x8 ![] bcast_S_S4096x8 (constantI S_ 32 1#32)))) (constantI S_ 32 0#32) reducesTo_S4096x8_S4096_d1 h_S_ := by
  after_results
  try rfl
theorem A2_v17 : after opsA2 V main_v17 = subi (addi (shapeCast S8 (extractStridedSlice S1x8 ![4095, 0] (V main_v7) slices_S4096x8_S1x8_4095_0) shapeCasts_S1x8_S8)
      (broadcastInDim S8 ![] bcast_S_S8 (constantI S_ 32 512#32))) (broadcastInDim S8 ![] bcast_S_S8 (constantI S_ 32 1#32)) := by
  after_results
  try rfl
theorem A2_c3 : after opsA2 V main_c_3 = constantI S_ 32 512#32 := by
  after_results
  try rfl

theorem A3_v18 : after opsA3 V main_v18 = fdiv (V main_v17) (V main_c_3) := by
  after_results
  try rfl

theorem A4_v19 : after opsA4 V main_v19 = Host.reduceWindow IntOp.addi ![8] ![1] ![7] ![0] (V main_v18)
      (broadcastInDim S_ ![] bcast_S_S_ (constantI S_ 32 0#32)) reduceWindows_S8_S8_w8s1p7_0 h_S_ := by
  after_results
  try rfl
theorem A4_v27 : after opsA4 V main_v27 = addi (Host.reduce IntOp.addi (muli (V main_v6) (broadcastInDim S4096x8 ![0, 1] bcast_S1x8_S4096x8_0_1
      (broadcastInDim S1x8 ![1] bcast_S8_S1x8_1 (muli (broadcastInDim S8 ![] bcast_S_S8 (constantI S_ 32 512#32))
        (subi (Host.reduceWindow IntOp.addi ![8] ![1] ![7] ![0] (V main_v18) (broadcastInDim S_ ![] bcast_S_S_ (constantI S_ 32 0#32)) reduceWindows_S8_S8_w8s1p7_0 h_S_)
          (V main_v18)))))) (constantI S_ 32 0#32) reducesTo_S4096x8_S4096_d1 h_S_) (V main_v11) := by
  after_results
  try rfl
theorem A4_v28 : after opsA4 V main_v28 = extractStridedSlice S1 ![7] (Host.reduceWindow IntOp.addi ![8] ![1] ![7] ![0] (V main_v18)
      (broadcastInDim S_ ![] bcast_S_S_ (constantI S_ 32 0#32)) reduceWindows_S8_S8_w8s1p7_0 h_S_) slices_S8_S1_7 := by
  after_results
  try rfl

theorem A5_v38 : after opsA5 V main_v38 = minsi (Host.reduce IntOp.addi (extui 32 (cmpi .sle
      (broadcastInDim S16x8 ![0, 1] bcast_S1x8_S16x8_0_1 (broadcastInDim S1x8 ![1] bcast_S8_S1x8_1 (V main_v19)))
      (broadcastInDim S16x8 ![0, 1] bcast_S16x1_S16x8_0_1 (broadcastInDim S16x1 ![0] bcast_S16_S16x1_0 (iotaInDim S16 32 0)))) natLt_1_32)
    (constantI S_ 32 0#32) reducesTo_S16x8_S16_d1 h_S_) (broadcastInDim S16 ![] bcast_S_S16 (constantI S_ 32 7#32)) := by
  after_results
  try rfl

theorem A6_v47 : after opsA6 V main_v47 = phys4 (V main_v27) := by
  after_results
  try rfl
theorem A6_v48 : after opsA6 V main_v48 = shapeCast S16384x2x128 (V main_arg0) shapeCasts_S4096x1024_S16384x2x128 := by
  after_results
  try rfl

theorem B_v50 : after opsB V main_v50 = shapeCast S8192x1024 (V main_v49) shapeCasts_S32768x2x128_S8192x1024 := by
  after_results
  try rfl
theorem B_v51 : after opsB V main_v51 = shapeCast S8x1x512 (V main_arg3) shapeCasts_S8x512_S8x1x512 := by
  after_results
  try rfl

theorem C_v61 : after opsC V main_v61 = phys2 (V main_v27) := by
  after_results
  try rfl
theorem C_v62 : after opsC V main_v62 = shapeCast S16384x2x128 (V main_v52) shapeCasts_S8192x512_S16384x2x128 := by
  after_results
  try rfl

theorem D_v64 : after opsD V main_v64 = shapeCast S4096x512 (V main_v63) shapeCasts_S8192x2x128_S4096x512 := by
  after_results
  try rfl

/-! ## What the first stretch leaves -/

theorem keep1 {r : Ref sig .tc} (h : r ∉ opsA1_W) : after opsA1 V r = V r := StableHlo.after_of_writes_sub opsA1 _ opsA1_writes h
theorem keep2 {r : Ref sig .tc} (h : r ∉ opsA2_W) : after opsA2 V r = V r := StableHlo.after_of_writes_sub opsA2 _ opsA2_writes h
theorem keep3 {r : Ref sig .tc} (h : r ∉ opsA3_W) : after opsA3 V r = V r := StableHlo.after_of_writes_sub opsA3 _ opsA3_writes h
theorem keep4 {r : Ref sig .tc} (h : r ∉ opsA4_W) : after opsA4 V r = V r := StableHlo.after_of_writes_sub opsA4 _ opsA4_writes h
theorem keep5 {r : Ref sig .tc} (h : r ∉ opsA5_W) : after opsA5 V r = V r := StableHlo.after_of_writes_sub opsA5 _ opsA5_writes h
theorem keep6 {r : Ref sig .tc} (h : r ∉ opsA6_W) : after opsA6 V r = V r := StableHlo.after_of_writes_sub opsA6 _ opsA6_writes h
theorem keepB {r : Ref sig .tc} (h : r ∉ opsB_W) : after opsB V r = V r := StableHlo.after_of_writes_sub opsB _ opsB_writes h
theorem keepC {r : Ref sig .tc} (h : r ∉ opsC_W) : after opsC V r = V r := StableHlo.after_of_writes_sub opsC _ opsC_writes h
theorem keepD {r : Ref sig .tc} (h : r ∉ opsD_W) : after opsD V r = V r := StableHlo.after_of_writes_sub opsD _ opsD_writes h

theorem afterA : after opsA V = after opsA6 (after opsA5 (after opsA4 (after opsA3 (after opsA2 (after opsA1 V))))) := by
  rw [opsA, after_app, after_app, after_app, after_app, after_app]

theorem keepA {r : Ref sig .tc} (h : r ∉ opsA1_W ++ (opsA2_W ++ (opsA3_W ++ (opsA4_W ++ (opsA5_W ++ opsA6_W))))) : after opsA V r = V r := by
  simp only [List.mem_append, not_or] at h
  rw [afterA, keep6 _ h.2.2.2.2.2, keep5 _ h.2.2.2.2.1, keep4 _ h.2.2.2.1, keep3 _ h.2.2.1, keep2 _ h.2.1, keep1 _ h.1]

theorem upTo2_v17 : after opsA2 (after opsA1 V) main_v17 = divd (V main_arg1) := by
  rw [A2_v17, A1_v7]; rfl
theorem upTo3_v18 : after opsA3 (after opsA2 (after opsA1 V)) main_v18 = nblk (V main_arg1) := by
  rw [A3_v18, upTo2_v17, A2_c3]; rfl
theorem upTo3_v6 : after opsA3 (after opsA2 (after opsA1 V)) main_v6 = oneHot (V main_arg1) := by
  rw [keep3 _ (by decide), keep2 _ (by decide), A1_v6]
theorem upTo3_v11 : after opsA3 (after opsA2 (after opsA1 V)) main_v11 = rank (V main_arg1) := by
  rw [keep3 _ (by decide), A2_v11, A1_v6, A1_v7]; rfl

theorem A_v27 : after opsA V main_v27 = pos (V main_arg1) := by
  rw [afterA, keep6 _ (by decide), keep5 _ (by decide), A4_v27, upTo3_v18, upTo3_v6, upTo3_v11]; rfl
theorem A_v28 : after opsA V main_v28 = nuV (V main_arg1) := by
  rw [afterA, keep6 _ (by decide), keep5 _ (by decide), A4_v28, upTo3_v18]; rfl
theorem A_v38 : after opsA V main_v38 = btV (V main_arg1) := by
  rw [afterA, keep6 _ (by decide), A5_v38, A4_v19, upTo3_v18]; rfl
theorem A_v47 : after opsA V main_v47 = phys4 (pos (V main_arg1)) := by
  rw [← A_v27, afterA, A6_v47, keep6 _ (by decide)]
theorem A_v48 : after opsA V main_v48 = shapeCast S16384x2x128 (V main_arg0) shapeCasts_S4096x1024_S16384x2x128 := by
  rw [afterA, A6_v48, keep5 _ (by decide), keep4 _ (by decide), keep3 _ (by decide), keep2 _ (by decide), keep1 _ (by decide)]

end Values

end Cert.Proof.Moe.Host
-- ==== Proof.Meta.lean ====
/-
  What the main line's integers are, when every row's expert is below 8: row `n` goes to place `512 S(t n) + r n`, with
  `S e` the blocks of the experts before `e` and `r n` the number of earlier rows of the same expert; so places are
  distinct and below 8192, a place's block is below the number of used blocks, and that block's expert is `t n`.
-/
module

public import proofs.«01_k».proof.Proof.MetaDefs
public import Idealize.ShloMosaic.Lib.Routing.OpsOne
public import Idealize.ShloMosaic.Lib.Routing.Words
public import Idealize.ShloMosaic.Lib.Routing.Count
public import Idealize.ShloMosaic.Lib.WordArith
public import Idealize.ShloMosaic.Lib.Pointwise.Index
public import Idealize.ShloMosaic.Lib.Pointwise.Reduce

@[expose] public section

noncomputable section

namespace Cert.Proof.Moe.Meta

open Cert.KernelIdeal Cert.KernelIdeal.Gen

open Idealize.ShloMosaic
open Idealize.ShloMosaic.Routing (shape0 shape1 shape2)

/-! ## Sums along the rows -/

/-- The sum of a row of eight words, all but one of them zero. -/
theorem row_sum (x : IVec S4096x8 32) (n : Fin 4096) (e : Fin 8) (hx : ∀ k, k ≠ e → x (ValueIdx.ix2 n k) = 0#32) :
    Host.reduce IntOp.addi x (constantI S_ 32 0#32) reducesTo_S4096x8_S4096_d1 h_S_ (ValueIdx.ix1 n) = x (ValueIdx.ix2 n e) := by
  rw [Host.reduce_eq_fold]
  refine (Shape.ReducesTo.fold_fiber_r2_a1 (n0 := 4096) (n1 := 8) reducesTo_S4096x8_S4096_d1 (ValueIdx.ix1 n) IntOp.addi 0#32 x).trans ?_
  change ∑ k : Fin 8, x (ix2 ⟨n.val, _⟩ k) = _
  refine (Finset.sum_eq_single e (fun k _ hk => ?_) (fun h => absurd (Finset.mem_univ _) h)).trans ?_
  · refine Eq.trans ?_ (hx k hk)
    exact congrArg x (funext fun a => match a with | ⟨0, _⟩ => rfl | ⟨1, _⟩ => rfl)
  · exact congrArg x (funext fun a => match a with | ⟨0, _⟩ => rfl | ⟨1, _⟩ => rfl)

section Words

variable (t : IVec S4096 32) (ht : ∀ n : Fin 4096, (t (ValueIdx.ix1 n)).toNat < 8)

/-- Row `n`'s expert, as a number. -/
def ex (n : ℕ) : ℕ := if h : n < 4096 then (t (ValueIdx.ix1 ⟨n, h⟩)).toNat else 0

theorem ex_val (n : Fin 4096) : ex t n.val = (t (ValueIdx.ix1 n)).toNat := dif_pos n.isLt

include ht in
theorem ex_lt (n : ℕ) : ex t n < 8 := by
  unfold ex
  split
  · exact ht _
  · omega

/-- How many of the first `n` rows are expert `e`'s. -/
def cnt (e n : ℕ) : ℕ := Nat.count (fun i => ex t i = e) n

/-- The blocks of expert `e`. -/
def blk (e : ℕ) : ℕ := (cnt t e 4096 + 511) / 512

/-- The blocks of the experts before `e`. -/
def pre (e : ℕ) : ℕ := ((List.range e).map (blk t)).sum

/-- Row `n`'s place. -/
def place (n : ℕ) : ℕ := 512 * pre t (ex t n) + cnt t (ex t n) n

theorem pre_succ (e : ℕ) : pre t (e + 1) = pre t e + blk t e := by
  unfold pre
  rw [List.range_succ, List.map_append, List.sum_append]
  simp

theorem pre_mono {a b : ℕ} (h : a ≤ b) : pre t a ≤ pre t b := by
  induction b, h using Nat.le_induction with
  | base => exact le_refl _
  | succ n _ ih => rw [pre_succ]; omega

theorem cnt_le (e n : ℕ) : cnt t e n ≤ n := Nat.count_le _

theorem cnt_mono (e : ℕ) {a b : ℕ} (h : a ≤ b) : cnt t e a ≤ cnt t e b := Nat.count_monotone _ h

theorem cnt_succ_self (n : ℕ) : cnt t (ex t n) (n + 1) = cnt t (ex t n) n + 1 := by
  unfold cnt
  rw [Nat.count_succ, if_pos rfl]

theorem cnt_lt (n : ℕ) (hn : n < 4096) : cnt t (ex t n) n < cnt t (ex t n) 4096 := by
  have h1 := cnt_mono t (ex t n) (show n + 1 ≤ 4096 from hn)
  rw [cnt_succ_self] at h1
  omega

theorem blk_ge (e : ℕ) : cnt t e 4096 ≤ 512 * blk t e := by unfold blk; omega

theorem sum_cnt_le (k : ℕ) : ((List.range (k + 1)).map fun e => cnt t e 4096).sum ≤ 4096 := by
  refine le_trans (le_of_eq (Routing.sum_count_eq (ex t) k 4096)) (Nat.count_le _)

theorem pre_bound (k : ℕ) : 512 * pre t k ≤ ((List.range k).map fun e => cnt t e 4096).sum + 511 * k := by
  induction k with
  | zero => simp [pre]
  | succ k ih =>
    rw [pre_succ, List.range_succ, List.map_append, List.sum_append]
    have : 512 * blk t k ≤ cnt t k 4096 + 511 := by unfold blk; omega
    simp only [List.map_cons, List.map_nil, List.sum_cons, List.sum_nil]
    omega

theorem pre8_le : pre t 8 ≤ 15 := by
  have h1 := pre_bound t 8
  have h2 := sum_cnt_le t 7
  simp only [Nat.reduceAdd] at h2
  omega

theorem pre_le (e : ℕ) (he : e ≤ 8) : pre t e ≤ 15 := (pre_mono t he).trans (pre8_le t)

/-- A place lies in its expert's blocks. -/
theorem place_div (n : ℕ) (hn : n < 4096) : pre t (ex t n) ≤ place t n / 512 ∧ place t n / 512 < pre t (ex t n + 1) := by
  have h1 := cnt_lt t n hn
  have h2 := blk_ge t (ex t n)
  rw [pre_succ]
  unfold place
  omega

include ht in
theorem place_div_lt (n : ℕ) (hn : n < 4096) : place t n / 512 < pre t 8 :=
  lt_of_lt_of_le (place_div t n hn).2 (pre_mono t (ex_lt t ht n))

include ht in
theorem place_lt (n : ℕ) (hn : n < 4096) : place t n < 7680 := by
  have h1 := place_div_lt t ht n hn
  have h2 := pre8_le t
  omega

include ht in
theorem pre8_pos : 1 ≤ pre t 8 := by
  have h1 := place_div_lt t ht 0 (by omega)
  omega

theorem place_inj {m n : ℕ} (hm : m < 4096) (hn : n < 4096) (h : place t m = place t n) : m = n := by
  have hex : ex t m = ex t n := by
    have h1 := place_div t m hm
    have h2 := place_div t n hn
    rw [h] at h1
    rcases lt_trichotomy (ex t m) (ex t n) with hlt | he | hlt
    · have := pre_mono t (show ex t m + 1 ≤ ex t n from hlt); omega
    · exact he
    · have := pre_mono t (show ex t n + 1 ≤ ex t m from hlt); omega
  have hc : cnt t (ex t n) m = cnt t (ex t n) n := by
    unfold place at h
    rw [hex] at h
    omega
  rcases lt_trichotomy m n with hlt | he | hlt
  · have h1 := cnt_mono t (ex t m) (show m + 1 ≤ n from hlt)
    rw [cnt_succ_self, hex] at h1
    omega
  · exact he
  · have h1 := cnt_mono t (ex t n) (show n + 1 ≤ m from hlt)
    rw [cnt_succ_self] at h1
    omega

/-- How many experts' blocks end at or before block `j`. -/
def below (j : ℕ) : ℕ := Nat.count (fun e => pre t (e + 1) ≤ j) 8

include ht in
theorem below_place (n : ℕ) (hn : n < 4096) : below t (place t n / 512) = ex t n := by
  have hd := place_div t n hn
  have he := ex_lt t ht n
  have hQ : ∀ a b, a ≤ b → b < 8 → pre t (b + 1) ≤ place t n / 512 → pre t (a + 1) ≤ place t n / 512 :=
    fun a b hab _ hb => (pre_mono t (by omega)).trans hb
  have h1 : ¬ ex t n < below t (place t n / 512) := fun h => by
    have := (Routing.lt_count_iff hQ he).2 h
    omega
  rcases Nat.eq_zero_or_pos (ex t n) with h0 | h0
  · omega
  · have h2 : ex t n - 1 < below t (place t n / 512) := (Routing.lt_count_iff hQ (by omega)).1 (by
      rw [Nat.sub_add_cancel h0]; exact hd.1)
    omega

/-! ## The words -/

include ht in
theorem oneHot_at (n : Fin 4096) (e : Fin 8) :
    oneHot t (ValueIdx.ix2 n e) = BitVec.ofNat 32 (if ex t n.val = e.val then 1 else 0) := by
  have hT : t (ValueIdx.ix1 n) = BitVec.ofNat 32 (ex t n.val) := by rw [ex_val]; exact (BitVec.ofNat_toNat _ _).symm ▸ (BitVec.setWidth_eq _).symm
  have h1 := Routing.bcRows bcast_S4096_S4096x1_0 bcast_S4096x1_S4096x8_0_1 t n e
  have h2 := Routing.bcCols bcast_S8_S1x8_1 bcast_S1x8_S4096x8_0_1 (iotaInDim S8 32 0) n e
  unfold oneHot
  rw [ValueIdx.extui_apply]
  refine (congrArg (fun z => (z : BitVec 1).setWidth 32) (congrArg₂ (IntOp.cmpi .eq) (h1.trans hT) (h2.trans (Routing.iota1_ap e)))).trans ?_
  rw [WordCmp.cmpi_eq_ofNat (w := 32) (by have := ex_lt t ht n.val; omega) (by have := e.isLt; omega)]
  exact Routing.setWidth_ofBool _

include ht in
theorem cums_at (n : Fin 4096) (e : Fin 8) : cums t (ValueIdx.ix2 n e) = BitVec.ofNat 32 (cnt t e.val (n.val + 1)) := by
  unfold cums
  refine (Routing.cumsum_rows (R := 4096) (Rm1 := 4095) (C := 8) rfl (oneHot t) (fun i c => if ex t i = c then 1 else 0) (oneHot_at t ht) _ ?_ _ _ n e).trans ?_
  · rfl
  · rw [Routing.sum_map_ite (fun i => ex t i = e.val)]; rfl

include ht in
theorem rank_at (n : Fin 4096) : rank t (ValueIdx.ix1 n) = BitVec.ofNat 32 (cnt t (ex t n.val) n.val) := by
  have he := ex_lt t ht n.val
  unfold rank
  rw [row_sum _ n ⟨ex t n.val, he⟩ (fun k hk => ?_)]
  · rw [Routing.muli_ap, Routing.subi_ap, oneHot_at t ht, if_pos rfl, cums_at t ht]
    have h1 : (broadcastInDim S4096x8 ![] bcast_S_S4096x8 (constantI S_ 32 1#32)) (ValueIdx.ix2 n ⟨ex t n.val, he⟩) = BitVec.ofNat 32 1 := rfl
    rw [h1, Routing.ofNat32_sub (by rw [cnt_succ_self]; omega), cnt_succ_self]
    exact BitVec.one_mul _
  · rw [Routing.muli_ap, oneHot_at t ht, if_neg (fun h => hk (Fin.ext h.symm))]
    exact BitVec.zero_mul

include ht in
theorem counts_at (e : Fin 8) : counts t (ValueIdx.ix1 e) = BitVec.ofNat 32 (cnt t e.val 4096) := by
  have h1 : counts t (ValueIdx.ix1 e) = extractStridedSlice S1x8 ![4095, 0] (cums t) slices_S4096x8_S1x8_4095_0 (ValueIdx.ix2 (0 : Fin 1) e) :=
    Routing.cast21 (a := 1) (b := 8) (n := 8) _ _ (0 : Fin 1) e e (by simp)
  have h2 : extractStridedSlice S1x8 ![4095, 0] (cums t) slices_S4096x8_S1x8_4095_0 (ValueIdx.ix2 (0 : Fin 1) e)
      = cums t (ValueIdx.ix2 (⟨4095, by omega⟩ : Fin 4096) e) := by
    unfold extractStridedSlice
    refine congrArg (cums t) (funext fun a => Fin.ext ?_)
    match a with
    | ⟨0, _⟩ => rfl
    | ⟨1, _⟩ => exact Nat.zero_add _
  have h3 := cums_at t ht (⟨4095, by omega⟩ : Fin 4096) e
  have h4 : ((⟨4095, by omega⟩ : Fin 4096).val + 1) = 4096 := rfl
  rw [h1, h2, h3, h4]

include ht in
theorem nblk_at (e : Fin 8) : nblk t (ValueIdx.ix1 e) = BitVec.ofNat 32 (blk t e.val) := by
  have hc := cnt_le t e.val 4096
  have h : divd t (ValueIdx.ix1 e) = BitVec.ofNat 32 (cnt t e.val 4096 + 511) := by
    unfold divd
    rw [Routing.subi_ap, Routing.addi_ap, counts_at t ht]
    have h1 : (broadcastInDim S8 ![] bcast_S_S8 (constantI S_ 32 512#32)) (ValueIdx.ix1 e) = BitVec.ofNat 32 512 := rfl
    have h2 : (broadcastInDim S8 ![] bcast_S_S8 (constantI S_ 32 1#32)) (ValueIdx.ix1 e) = BitVec.ofNat 32 1 := rfl
    rw [h1, h2, BitVec.ofNat_add_ofNat, Routing.ofNat32_sub (by omega)]
    rfl
  exact Routing.pyDiv_ap bcast_S_S8 (divd t) (constantI S_ 32 512#32) (ValueIdx.ix1 e) (a := cnt t e.val 4096 + 511) (b := 512) h rfl
    (by omega) (by omega) (by omega)

include ht in
theorem cumb_at (e : Fin 8) : cumb t (ValueIdx.ix1 e) = BitVec.ofNat 32 (pre t (e.val + 1)) := by
  unfold cumb
  exact Routing.cumsum1 (N := 8) (Nm1 := 7) rfl (nblk t) (blk t) (nblk_at t ht) _ rfl _ _ e

include ht in
theorem offs_at (e : Fin 8) : offs t (ValueIdx.ix1 e) = BitVec.ofNat 32 (512 * pre t e.val) := by
  unfold offs
  rw [Routing.muli_ap, Routing.subi_ap, cumb_at t ht, nblk_at t ht, pre_succ, Routing.ofNat32_sub (by omega), Nat.add_sub_cancel]
  have h1 : (broadcastInDim S8 ![] bcast_S_S8 (constantI S_ 32 512#32)) (ValueIdx.ix1 e) = BitVec.ofNat 32 512 := rfl
  rw [h1, BitVec.ofNat_mul]

include ht in
theorem pos_at (n : Fin 4096) : pos t (ValueIdx.ix1 n) = BitVec.ofNat 32 (place t n.val) := by
  have he := ex_lt t ht n.val
  have hb : ∀ k : Fin 8, broadcastInDim S4096x8 ![0, 1] bcast_S1x8_S4096x8_0_1 (broadcastInDim S1x8 ![1] bcast_S8_S1x8_1 (offs t)) (ValueIdx.ix2 n k)
      = BitVec.ofNat 32 (512 * pre t k.val) := fun k =>
    (Routing.bcCols bcast_S8_S1x8_1 bcast_S1x8_S4096x8_0_1 (offs t) n k).trans (offs_at t ht k)
  unfold pos
  rw [Routing.addi_ap, rank_at t ht, row_sum _ n ⟨ex t n.val, he⟩ (fun k hk => ?_)]
  · rw [Routing.muli_ap, oneHot_at t ht, if_pos rfl, hb]
    rw [show BitVec.ofNat 32 1 * BitVec.ofNat 32 (512 * pre t (ex t n.val)) = BitVec.ofNat 32 (512 * pre t (ex t n.val)) from BitVec.one_mul _,
      BitVec.ofNat_add_ofNat]
    rfl
  · rw [Routing.muli_ap, oneHot_at t ht, if_neg (fun h => hk (Fin.ext h.symm))]
    exact BitVec.zero_mul

include ht in
theorem nuV_at : nuV t (ValueIdx.ix1 0) = BitVec.ofNat 32 (pre t 8) := by
  unfold nuV
  exact (Routing.slice1 (m := 8) (n := 1) 7 (cumb t) slices_S8_S1_7 0 (by simp)).trans (cumb_at t ht ⟨7, by omega⟩)

include ht in
theorem btV_at (j : Fin 16) : btV t (ValueIdx.ix1 j) = IntOp.minsi (BitVec.ofNat 32 (below t j.val)) 7#32 := by
  have h1 : ∀ q : Fin 8, cmpi .sle (broadcastInDim S16x8 ![0, 1] bcast_S1x8_S16x8_0_1 (broadcastInDim S1x8 ![1] bcast_S8_S1x8_1 (cumb t)))
      (broadcastInDim S16x8 ![0, 1] bcast_S16x1_S16x8_0_1 (broadcastInDim S16x1 ![0] bcast_S16_S16x1_0 (iotaInDim S16 32 0))) (ValueIdx.ix2 j q) = 1#1
      ↔ pre t (q.val + 1) ≤ j.val := fun q => by
    have e1 := (Routing.bcCols bcast_S8_S1x8_1 bcast_S1x8_S16x8_0_1 (cumb t) j q).trans (cumb_at t ht q)
    have e2 := (Routing.bcRows bcast_S16_S16x1_0 bcast_S16x1_S16x8_0_1 (iotaInDim S16 32 0) j q).trans (Routing.iota1_ap j)
    have hp := pre_le t (q.val + 1) (by have := q.isLt; omega)
    refine (iff_of_eq (congrArg (· = 1#1) (congrArg₂ (IntOp.cmpi .sle) e1 e2))).trans ?_
    exact WordCmp.cmpi_sle_ofNat_eq_one_iff (w := 32) (by omega) (by have := j.isLt; omega)
  have h2 := Routing.reduce_count (n := 16) (m := 8) (by omega) _ natLt_1_32 reducesTo_S16x8_S16_d1 h_S_ j (fun q => pre t (q + 1) ≤ j.val) h1
  exact congrArg (fun z => IntOp.minsi z 7#32) h2

/-! ## The physical rows -/

/-- A column spread over four: entry `(i, j)` is the column's entry `i`. -/
theorem spread4 (x : IVec S4096x1 32) (i : Fin 4096) (j : Fin 4) :
    broadcastInDim S4096x4 ![0, 1] bcast_S4096x1_S4096x4_0_1 x (ValueIdx.ix2 i j) = x (ValueIdx.ix2 i (0 : Fin 1)) :=
  broadcastInDim_apply _ _ x _ _ fun a => by
    match a with
    | ⟨0, _⟩ => rfl
    | ⟨1, _⟩ => rfl

/-- A column spread over two. -/
theorem spread2 (x : IVec S4096x1 32) (i : Fin 4096) (j : Fin 2) :
    broadcastInDim S4096x2 ![0, 1] bcast_S4096x1_S4096x2_0_1 x (ValueIdx.ix2 i j) = x (ValueIdx.ix2 i (0 : Fin 1)) :=
  broadcastInDim_apply _ _ x _ _ fun a => by
    match a with
    | ⟨0, _⟩ => rfl
    | ⟨1, _⟩ => rfl

include ht in
theorem phys4_at (i : Fin 4096) (j : Fin 4) (k : Fin 16384) (hk : k.val = i.val * 4 + j.val) :
    phys4 (pos t) (ValueIdx.ix1 k) = BitVec.ofNat 32 (4 * place t i.val + j.val) := by
  unfold phys4
  refine (Routing.cast21 (a := 4096) (b := 4) (n := 16384) _ _ i j k hk).trans ?_
  rw [Routing.addi_ap]
  have h1 := spread4 (muli (broadcastInDim S4096x1 ![] bcast_S_S4096x1 (constantI S_ 32 4#32)) (broadcastInDim S4096x1 ![0] bcast_S4096_S4096x1_0 (pos t))) i j
  have h2 := (Routing.bcCol bcast_S4096_S4096x1_0 (pos t) i).trans (pos_at t ht i)
  have h3 := (Routing.bcCols bcast_S4_S1x4_1 bcast_S1x4_S4096x4_0_1 (iotaInDim S4 32 0) i j).trans (Routing.iota1_ap j)
  have h4 : (broadcastInDim S4096x1 ![] bcast_S_S4096x1 (constantI S_ 32 4#32)) (ValueIdx.ix2 i (0 : Fin 1)) = BitVec.ofNat 32 4 := rfl
  refine (congrArg₂ (· + ·) (h1.trans ((Routing.muli_ap _ _ _).trans (congrArg₂ (· * ·) h4 h2))) h3).trans ?_
  rw [← BitVec.ofNat_mul, BitVec.ofNat_add_ofNat]

include ht in
theorem phys2_at (i : Fin 4096) (j : Fin 2) (k : Fin 8192) (hk : k.val = i.val * 2 + j.val) :
    phys2 (pos t) (ValueIdx.ix1 k) = BitVec.ofNat 32 (2 * place t i.val + j.val) := by
  unfold phys2
  refine (Routing.cast21 (a := 4096) (b := 2) (n := 8192) _ _ i j k hk).trans ?_
  rw [Routing.addi_ap]
  have h1 := spread2 (muli (broadcastInDim S4096x1 ![] bcast_S_S4096x1 (constantI S_ 32 2#32)) (broadcastInDim S4096x1 ![0] bcast_S4096_S4096x1_0 (pos t))) i j
  have h2 := (Routing.bcCol bcast_S4096_S4096x1_0 (pos t) i).trans (pos_at t ht i)
  have h3 := (Routing.bcCols bcast_S2_S1x2_1 bcast_S1x2_S4096x2_0_1 (iotaInDim S2 32 0) i j).trans (Routing.iota1_ap j)
  have h4 : (broadcastInDim S4096x1 ![] bcast_S_S4096x1 (constantI S_ 32 2#32)) (ValueIdx.ix2 i (0 : Fin 1)) = BitVec.ofNat 32 2 := rfl
  refine (congrArg₂ (· + ·) (h1.trans ((Routing.muli_ap _ _ _).trans (congrArg₂ (· * ·) h4 h2))) h3).trans ?_
  rw [← BitVec.ofNat_mul, BitVec.ofNat_add_ofNat]

theorem ix1_same {n : ℕ} (a : Fin n) : (ValueIdx.ix1 a : (shape1 n).Idx) = ix1 a := funext fun b => match b with | ⟨0, _⟩ => rfl

include ht in
/-- The quarter row that piece `k` of the rows goes to. -/
theorem phys4_nat (k : S16384.Idx) :
    (phys4 (pos t) k).toNat = 4 * place t ((k 0).val / 4) + (k 0).val % 4 := by
  have hk : (k 0).val < 16384 := (k 0).isLt
  have h := phys4_at t ht ⟨(k 0).val / 4, by omega⟩ ⟨(k 0).val % 4, by omega⟩ (k 0) (by simp only []; omega)
  have hp := place_lt t ht ((k 0).val / 4) (by omega)
  have e := (congrArg (fun z => BitVec.toNat (phys4 (pos t) z)) (ValueIdx.eq_ix1 k)).trans (congrArg BitVec.toNat h)
  refine e.trans ?_
  rw [BitVec.toNat_ofNat]
  exact Nat.mod_eq_of_lt (by simp only []; omega)

include ht in
theorem phys4_lt (k : S16384.Idx) : (phys4 (pos t) k).toNat < 32768 := by
  have hk : (k 0).val < 16384 := (k 0).isLt
  have hp := place_lt t ht ((k 0).val / 4) (by omega)
  rw [phys4_nat t ht]
  omega

include ht in
theorem phys4_inj (k l : S16384.Idx) (h : (phys4 (pos t) k).toNat = (phys4 (pos t) l).toNat) : k = l := by
  have hk : (k 0).val < 16384 := (k 0).isLt
  have hl : (l 0).val < 16384 := (l 0).isLt
  rw [phys4_nat t ht, phys4_nat t ht] at h
  have h1 : (k 0).val / 4 = (l 0).val / 4 := place_inj t (by omega) (by omega) (by omega)
  have h2 : k 0 = l 0 := Fin.ext (by omega)
  rw [ValueIdx.eq_ix1 k, ValueIdx.eq_ix1 l, h2]

include ht in
/-- The half row that piece `k` of the result comes from. -/
theorem phys2_nat (k : S8192.Idx) :
    (phys2 (pos t) k).toNat = 2 * place t ((k 0).val / 2) + (k 0).val % 2 := by
  have hk : (k 0).val < 8192 := (k 0).isLt
  have h := phys2_at t ht ⟨(k 0).val / 2, by omega⟩ ⟨(k 0).val % 2, by omega⟩ (k 0) (by simp only []; omega)
  have hp := place_lt t ht ((k 0).val / 2) (by omega)
  have e := (congrArg (fun z => BitVec.toNat (phys2 (pos t) z)) (ValueIdx.eq_ix1 k)).trans (congrArg BitVec.toNat h)
  refine e.trans ?_
  rw [BitVec.toNat_ofNat]
  exact Nat.mod_eq_of_lt (by simp only []; omega)

include ht in
theorem phys2_lt (k : S8192.Idx) : (phys2 (pos t) k).toNat < 16384 := by
  have hk : (k 0).val < 8192 := (k 0).isLt
  have hp := place_lt t ht ((k 0).val / 2) (by omega)
  rw [phys2_nat t ht]
  omega

include ht in
theorem btV_nat (j : Fin 16) : (btV t (ValueIdx.ix1 j)).toNat = min (below t j.val) 7 := by
  have hb : below t j.val ≤ 8 := Nat.count_le _
  have h8 : (BitVec.ofNat 32 (below t j.val)).toNat = below t j.val := by rw [BitVec.toNat_ofNat]; omega
  rw [btV_at t ht, WordArith.toNat_minsi_of_lt _ _ (by rw [h8]; omega) (by decide), h8]
  rfl

include ht in
theorem btV_lt (j : Fin 16) : (btV t (ValueIdx.ix1 j)).toNat < 8 := by
  rw [btV_nat t ht]
  omega

include ht in
/-- The expert of a row's block is the row's. -/
theorem btV_place (n : Fin 4096) (j : Fin 16) (hj : j.val = place t n.val / 512) : (btV t (ValueIdx.ix1 j)).toNat = (t (ValueIdx.ix1 n)).toNat := by
  have := ex_lt t ht n.val
  rw [btV_nat t ht, hj, below_place t ht n.val n.isLt, ← ex_val]
  omega

end Words

end Cert.Proof.Moe.Meta
-- ==== Proof.Launch.lean ====
/-
  The launch: the contents of the main line's buffers between its calls, what the two SparseCore calls lend their
  tiles, and the tiles' tasks as the launch asks for them.
-/
module

public import proofs.«01_k».proof.Proof.Split
public import proofs.«01_k».proof.Proof.Host
public import proofs.«01_k».proof.Proof.Meta

@[expose] public section

noncomputable section

namespace Cert.Proof.Moe.Launch

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (after seq held)
open Cert.Proof.Moe.Host Cert.Proof.Moe.Meta Cert.Proof.Moe.Region

variable {F : FTy → Type} [FloatOps F]

local notation "𝕄" => MT nD τ sig (HIx 2) (Elt F) ℕ UU ℕ

variable (m : (ℓ : Loc nD τ sig) → Buf (Elt F) ℓ) (ρ : Dev nD → PrngReg)

/-! ## The buffers' contents along the main line -/

def V0 (d : Dev nD) : Valuation τ sig (Elt F) := fun b => m (d, b)
/-- The tasks' experts. -/
def tk (d : Dev nD) : IVec S4096 32 := V0 m d main_arg1
/-- After the first stretch. -/
def V1 (d : Dev nD) : Valuation τ sig (Elt F) := after opsA (V0 m d)
/-- The padded buffer after the first call. -/
def sorted (d : Dev nD) : S32768x2x128.Idx → Elt F .f32 := scatV (V1 m d main_v47) (V1 m d main_v48) (V1 m d main_v49)
def V2 (d : Dev nD) : Valuation τ sig (Elt F) := Function.update (V1 m d) (Proc.devRef .tc main_v49) (sorted m d)
/-- After the second stretch. -/
def V3 (d : Dev nD) : Valuation τ sig (Elt F) := after opsB (V2 m d)
/-- The number of used blocks. -/
def used (d : Dev nD) : ℕ := pre (tk m d) 8
/-- After the grouped product. -/
def V4 (d : Dev nD) : Valuation τ sig (Elt F) :=
  Function.update (V3 m d) (Proc.devRef .tc main_v52) (outV (V3 m d) (V3 m d main_v38) (used m d))
/-- After the third stretch. -/
def V5 (d : Dev nD) : Valuation τ sig (Elt F) := after opsC (V4 m d)
/-- The result's rows after the second call. -/
def combined (d : Dev nD) : S8192x2x128.Idx → Elt F .f32 := Comb.gathV (V5 m d main_v61) (V5 m d main_v62)
def V6 (d : Dev nD) : Valuation τ sig (Elt F) := Function.update (V5 m d) (Proc.devRef .tc main_v63) (combined m d)
/-- At the end. -/
def V7 (d : Dev nD) : Valuation τ sig (Elt F) := after opsD (V6 m d)

theorem V2_other (d : Dev nD) {r : Ref sig .tc} (h : r ≠ main_v49) : V2 m d r = V1 m d r :=
  Function.update_of_ne (StableHlo.devRef_ne_of_ne h) _ _
theorem V2_v49 (d : Dev nD) : V2 m d main_v49 = sorted m d := Function.update_self _ _ _
theorem V4_other (d : Dev nD) {r : Ref sig .tc} (h : r ≠ main_v52) : V4 m d r = V3 m d r :=
  Function.update_of_ne (StableHlo.devRef_ne_of_ne h) _ _
theorem V4_v52 (d : Dev nD) : V4 m d main_v52 = outV (V3 m d) (V3 m d main_v38) (used m d) := Function.update_self _ _ _
theorem V6_other (d : Dev nD) {r : Ref sig .tc} (h : r ≠ main_v63) : V6 m d r = V5 m d r :=
  Function.update_of_ne (StableHlo.devRef_ne_of_ne h) _ _
theorem V6_v63 (d : Dev nD) : V6 m d main_v63 = combined m d := Function.update_self _ _ _

theorem V1_v47 (d : Dev nD) : V1 m d main_v47 = phys4 (pos (tk m d)) := A_v47 (V0 m d)
theorem V1_v48 (d : Dev nD) : V1 m d main_v48 = shapeCast S16384x2x128 (V0 m d main_arg0) shapeCasts_S4096x1024_S16384x2x128 := A_v48 (V0 m d)
theorem V3_v28 (d : Dev nD) : V3 m d main_v28 = nuV (tk m d) :=
  (keepB (V2 m d) (by decide)).trans ((V2_other m d (by decide)).trans (A_v28 (V0 m d)))
theorem V3_v38 (d : Dev nD) : V3 m d main_v38 = btV (tk m d) :=
  (keepB (V2 m d) (by decide)).trans ((V2_other m d (by decide)).trans (A_v38 (V0 m d)))
theorem V3_v27 (d : Dev nD) : V3 m d main_v27 = pos (tk m d) :=
  (keepB (V2 m d) (by decide)).trans ((V2_other m d (by decide)).trans (A_v27 (V0 m d)))
theorem V5_v61 (d : Dev nD) : V5 m d main_v61 = phys2 (pos (tk m d)) :=
  (C_v61 (V4 m d)).trans (congrArg phys2 ((V4_other m d (by decide)).trans (V3_v27 m d)))
theorem V5_v62 (d : Dev nD) : V5 m d main_v62 = shapeCast S16384x2x128 (V4 m d main_v52) shapeCasts_S8192x512_S16384x2x128 := C_v62 (V4 m d)

/-- The four arguments stay as they were. -/
theorem V7_arg (d : Dev nD) {r : Ref sig .tc} (hA : r ∉ opsA1_W ++ (opsA2_W ++ (opsA3_W ++ (opsA4_W ++ (opsA5_W ++ opsA6_W))))) (hB : r ∉ opsB_W)
    (hC : r ∉ opsC_W) (hD : r ∉ opsD_W) (h1 : r ≠ main_v49) (h2 : r ≠ main_v52) (h3 : r ≠ main_v63) : V7 m d r = V0 m d r :=
  (keepD (V6 m d) hD).trans <| (V6_other m d h3).trans <| (keepC (V4 m d) hC).trans <| (V4_other m d h2).trans <|
    (keepB (V2 m d) hB).trans <| (V2_other m d h1).trans (keepA (V0 m d) hA)

/-! ## What the launch memory must hold -/

/-- Every row's expert is below eight. -/
def PreOK : Prop := ∀ (d : Dev nD) (n : Fin 4096), (tk m d (ValueIdx.ix1 n)).toNat < 8

variable {m} in
theorem words0_lt (hp : PreOK m) (d : Dev nD) (k : S16384.Idx) : ((V1 m d main_v47 : S16384.Idx → BitVec 32) k).toNat < 32768 := by
  rw [V1_v47]; exact phys4_lt (tk m d) (hp d) k
variable {m} in
theorem words0_inj (hp : PreOK m) (d : Dev nD) (k l : S16384.Idx)
    (h : ((V1 m d main_v47 : S16384.Idx → BitVec 32) k).toNat = ((V1 m d main_v47 : S16384.Idx → BitVec 32) l).toNat) : k = l := by
  rw [V1_v47] at h; exact phys4_inj (tk m d) (hp d) k l h
variable {m} in
theorem words2_lt (hp : PreOK m) (d : Dev nD) (k : S8192.Idx) : ((V5 m d main_v61 : S8192.Idx → BitVec 32) k).toNat < 16384 := by
  rw [V5_v61]; exact phys2_lt (tk m d) (hp d) k

/-- The prefetched tables. -/
def tabC : pre1.Contents (Elt F) := fun k => V3 m (0 : Dev nD) (Proc.devRef .tc (pre1.ref k))

variable {m} in
theorem tabs_ok (hp : PreOK m) : Tabs (tabC m) (used m (0 : Dev nD)) where
  pos := pre8_pos (tk m 0) (hp 0)
  le := (pre8_le (tk m 0)).trans (by decide)
  hN := (congrFun (V3_v28 m 0) (ix1 0)).trans ((congrArg (nuV (tk m 0)) (ix1_same (n := 1) 0).symm).trans (nuV_at (tk m 0) (hp 0)))
  hT j _ := lt_of_eq_of_lt (congrArg BitVec.toNat ((congrFun (V3_v38 m 0) (ix1 j)).trans (congrArg (btV (tk m 0)) (ix1_same j).symm))) (btV_lt (tk m 0) (hp 0) j)

/-- The tables, admissible. -/
def a1 (hp : PreOK m) : (pcfg1 (F := F)).Adm := ⟨tabC m, ok_of_tabs (tabs_ok hp)⟩

/-! ## What the calls lend their tiles -/

theorem nSub0 : (K (F := F)).nSub 0 = 16 := rfl
theorem nSub1 : (K (F := F)).nSub 1 = 16 := rfl
theorem nCore0 : (K (F := F)).nCore 0 = 2 := rfl
theorem nCore1 : (K (F := F)).nCore 1 = 2 := rfl

/-- A tile's part of the first call, before and after, and of the second. -/
abbrev go0 (d : Dev nD) (c : Fin 2) (i : Fin 16) : sProp 𝕄 :=
  pay0 d (co0 c i) (shr c i) (V1 m d main_v47) (V1 m d main_v48) (V1 m d main_v49)
abbrev td0 (d : Dev nD) (c : Fin 2) (i : Fin 16) : sProp 𝕄 :=
  pay0 d (co0 c i) (shr c i) (V1 m d main_v47) (V1 m d main_v48) (sorted m d)
abbrev go1 (d : Dev nD) (c : Fin 2) (i : Fin 16) : sProp 𝕄 :=
  Comb.pay2 d (co2 c i) (shr c i) (V5 m d main_v61) (V5 m d main_v62) (V5 m d main_v63)
abbrev td1 (d : Dev nD) (c : Fin 2) (i : Fin 16) : sProp 𝕄 :=
  Comb.pay2 d (co2 c i) (shr c i) (V5 m d main_v61) (V5 m d main_v62) (combined m d)

abbrev tiles (Φ : Fin 16 → sProp 𝕄) : sProp 𝕄 := bigSep Finset.univ Φ

def P : (K (F := F)).Pay (nD := nD) (Val := Elt F) (Name := ℕ) (U := UU) where
  st := fun q d c => match q with | 0 => tiles (go0 m d (Fin.cast nCore0 c)) | 1 => tiles (go1 m d (Fin.cast nCore1 c))
  dn := fun q d c => match q with | 0 => tiles (td0 m d (Fin.cast nCore0 c)) | 1 => tiles (td1 m d (Fin.cast nCore1 c))
  go := fun q d c i => match q with
    | 0 => go0 m d (Fin.cast nCore0 c) (Fin.cast nSub0 i)
    | 1 => go1 m d (Fin.cast nCore1 c) (Fin.cast nSub1 i)
  td := fun q d c i => match q with
    | 0 => td0 m d (Fin.cast nCore0 c) (Fin.cast nSub0 i)
    | 1 => td1 m d (Fin.cast nCore1 c) (Fin.cast nSub1 i)
  x := fun _ _ => iprop(emp)

instance P_storable : (P (F := F) m).IsStorable where
  st q d c := match q with
    | 0 => (inferInstance : BI.Storable (upEmb : UEmb _ 𝕄) (tiles (go0 m d (Fin.cast nCore0 c))))
    | 1 => (inferInstance : BI.Storable (upEmb : UEmb _ 𝕄) (tiles (go1 m d (Fin.cast nCore1 c))))
  dn q d c := match q with
    | 0 => (inferInstance : BI.Storable (upEmb : UEmb _ 𝕄) (tiles (td0 m d (Fin.cast nCore0 c))))
    | 1 => (inferInstance : BI.Storable (upEmb : UEmb _ 𝕄) (tiles (td1 m d (Fin.cast nCore1 c))))
  go q d c i := match q with
    | 0 => (inferInstance : BI.Storable (upEmb : UEmb _ 𝕄) (go0 m d (Fin.cast nCore0 c) (Fin.cast nSub0 i)))
    | 1 => (inferInstance : BI.Storable (upEmb : UEmb _ 𝕄) (go1 m d (Fin.cast nCore1 c) (Fin.cast nSub1 i)))
  td q d c i := match q with
    | 0 => (inferInstance : BI.Storable (upEmb : UEmb _ 𝕄) (td0 m d (Fin.cast nCore0 c) (Fin.cast nSub0 i)))
    | 1 => (inferInstance : BI.Storable (upEmb : UEmb _ 𝕄) (td1 m d (Fin.cast nCore1 c) (Fin.cast nSub1 i)))

/-! ## The tiles' tasks -/

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  isplitl [HA]; · iexact HA
  isplitl [HB]; · iexact HB
  isplitl [HC]; · iexact HC
  iexists W'; isplitr
  · ipureintro; exact fun p hp => (h p hp).imp_right Or.inl
  iexact HO

theorem defs₀_first (c : Fin τ.nSC) (s : Fin τ.nSub) :
    defs₀ (F := F) (.scVector c s) 0 ()
      = SparseCore.onTile hcore0 hsub0 (fun c s => cc0__scatter_feat_kernel (co0 c s) xV (Memref.isWhole_whole _) iV (Memref.isWhole_whole _) oV (Memref.isWhole_whole _)
            l0V (Memref.isWhole_whole _) l1V (Memref.isWhole_whole _) l2V (Memref.isWhole_whole _) l3V (Memref.isWhole_whole _)
            r0V (Memref.isWhole_whole _) r1V (Memref.isWhole_whole _) cc0_scratch6 cc0_scratch7
            cc0_scoped0 cc0_scoped1 cc0_scoped2 cc0_scoped3 cc0_scoped4 cc0_scoped5 cc0_scoped6 cc0_scoped7) ⟨⟩ c s := rfl

theorem defs₀_second (c : Fin τ.nSC) (s : Fin τ.nSub) :
    defs₀ (F := F) (.scVector c s) 2 ()
      = SparseCore.onTile hcore2 hsub2 (fun c s => cc2__combine_kernel (co2 c s) Comb.xV (Memref.isWhole_whole _) Comb.iV (Memref.isWhole_whole _) Comb.oV (Memref.isWhole_whole _)
            Comb.lV (Memref.isWhole_whole _) Comb.rV (Memref.isWhole_whole _) cc2_scratch2 cc2_scoped0 cc2_scoped1) ⟨⟩ c s := rfl

set_option maxRecDepth 16384 in
theorem tile0 (hp : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_first]; simp only [SparseCore.onTile, hci, and_self, ↓reduceDIte]
  exact (tile0_body d (co0 ⟨_, hci.1⟩ ⟨_, hci.2⟩) facts (shr (Fin.cast nCore0 c) (Fin.cast nSub0 i)) (V1 m d main_v47) (V1 m d main_v48) (V1 m d main_v49)
    (words0_lt hp d) (words0_inj hp d) O W hO).trans (wp_mono frame _ _ fun _ => obl_post)

set_option maxRecDepth 16384 in
theorem tile1 (hp : PreOK m) : (K (F := F)).TileObl (D (F := F)) 𝒱 (P m) v₀ 1 := by
  intro d c i O W hO _ _
  simp only [show (P m).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_second]; simp only [SparseCore.onTile, hci, and_self, ↓reduceDIte]
  exact (Comb.tile2_body d (co2 ⟨_, hci.1⟩ ⟨_, hci.2⟩) facts (shr (Fin.cast nCore1 c) (Fin.cast nSub1 i)) (V5 m d main_v61) (V5 m d main_v62) (V5 m d main_v63)
    (words2_lt hp d) O W hO).trans (wp_mono frame _ _ fun _ => obl_post)

theorem split_trivial {A B : sProp 𝕄} : A ⊢ |={Set.univ}=> iprop(A ∗ (B -∗ B)) := by
  iintro H; imodintro
  isplitl [H]; · iexact H
  iintro H; iexact H

theorem vec0 : (K (F := F)).VecSplit' (P m) 0 := fun d c =>
  (split_trivial (A := tiles (go0 m d (Fin.cast nCore0 c))) (B := tiles (td0 m d (Fin.cast nCore0 c))))
theorem vec1 : (K (F := F)).VecSplit' (P m) 1 := fun d c =>
  (split_trivial (A := tiles (go1 m d (Fin.cast nCore1 c))) (B := tiles (td1 m d (Fin.cast nCore1 c))))

end Cert.Proof.Moe.Launch

end
-- ==== Proof.Main.lean ====
/-
  The main line run from the launch: its stretches of host operations, the two SparseCore calls and the grouped
  product in order, and with it the whole program's run.
-/
module

public import proofs.«01_k».proof.Proof.Launch

@[expose] public section

noncomputable section

namespace Cert.Proof.Moe.Launch

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (after seq held)
open Cert.Proof.Moe.Host Cert.Proof.Moe.Meta Cert.Proof.Moe.Region

variable {F : FTy → Type} [FloatOps F]

local notation "𝕄" => MT nD τ sig (HIx 2) (Elt F) ℕ UU ℕ

variable (m : (ℓ : Loc nD τ sig) → Buf (Elt F) ℓ) (ρ : Dev nD → PrngReg)

/-! ## The stretches' operations stay within the main line's buffers -/

theorem all_app {α : Type} {p : α → Prop} {l₁ l₂ : List α} (h₁ : ∀ a ∈ l₁, p a) (h₂ : ∀ a ∈ l₂, p a) : ∀ a ∈ l₁ ++ l₂, p a :=
  fun a ha => (List.mem_append.mp ha).elim (h₁ a) (h₂ a)

theorem within {ops : List (HloOp τ sig (Elt F))} (h : ops.Forall fun op => op.bufs ⊆ StableHlo.tcRefs τ sig) :
    ∀ op ∈ ops, op.bufs ⊆ Pipeline.ucRefs τ sig := fun op ho => Pipeline.sub_ucRefs op (List.forall_iff_forall_mem.mp h op ho)

theorem subA : ∀ op ∈ (opsA : List (HloOp τ sig (Elt F))), op.bufs ⊆ Pipeline.ucRefs τ sig :=
  all_app (within opsA1_sub) <| all_app (within opsA2_sub) <| all_app (within opsA3_sub) <| all_app (within opsA4_sub) <|
    all_app (within opsA5_sub) (within opsA6_sub)
theorem freshA : ∀ op ∈ (opsA : List (HloOp τ sig (Elt F))), op.fresh = ∅ :=
  all_app (List.forall_iff_forall_mem.mp opsA1_fresh) <| all_app (List.forall_iff_forall_mem.mp opsA2_fresh) <|
    all_app (List.forall_iff_forall_mem.mp opsA3_fresh) <| all_app (List.forall_iff_forall_mem.mp opsA4_fresh) <|
    all_app (List.forall_iff_forall_mem.mp opsA5_fresh) (List.forall_iff_forall_mem.mp opsA6_fresh)

/-! ## The calls' buffers out of the main line's, and back -/

abbrev dr (r : Ref sig .tc) : DevRef τ sig := Proc.devRef .tc r

theorem mem_uc (r : Ref sig .tc) (h : (dr r).isScoped = false) : dr r ∈ Pipeline.ucRefs τ sig :=
  Finset.mem_filter.mpr ⟨StableHlo.devRef_mem_tcRefs r, fun h' => Bool.false_ne_true (h.symm.trans h')⟩

abbrev S0 : Finset (DevRef τ sig) := {dr main_v47, dr main_v48, dr main_v49}
abbrev S2 : Finset (DevRef τ sig) := {dr main_v61, dr main_v62, dr main_v63}

theorem S0_sub : S0 ⊆ Pipeline.ucRefs τ sig := by
  intro b hb
  rcases Finset.mem_insert.mp hb with rfl | hb
  · exact mem_uc _ (by decide)
  rcases Finset.mem_insert.mp hb with rfl | hb
  · exact mem_uc _ (by decide)
  rw [Finset.mem_singleton.mp hb]
  exact mem_uc _ (by decide)
theorem S2_sub : S2 ⊆ Pipeline.ucRefs τ sig := by
  intro b hb
  rcases Finset.mem_insert.mp hb with rfl | hb
  · exact mem_uc _ (by decide)
  rcases Finset.mem_insert.mp hb with rfl | hb
  · exact mem_uc _ (by decide)
  rw [Finset.mem_singleton.mp hb]
  exact mem_uc _ (by decide)

abbrev uc (d : Dev nD) (V : Valuation τ sig (Elt F)) : sProp 𝕄 := held (d.tc : Thread nD τ) (Pipeline.ucRefs τ sig) V
abbrev ucBut (S : Finset (DevRef τ sig)) (d : Dev nD) (V : Valuation τ sig (Elt F)) : sProp 𝕄 := held (d.tc : Thread nD τ) (Pipeline.ucRefs τ sig \ S) V

theorem uc_S0 (d : Dev nD) (V : Valuation τ sig (Elt F)) :
    uc d V = iprop(iprop((iLoc d ↦{fullShare} (V main_v47 : Buf (Elt F) (iLoc d))) ∗ (xLoc d ↦{fullShare} (V main_v48 : Buf (Elt F) (xLoc d)))
      ∗ (oLoc d ↦{fullShare} (V main_v49 : Buf (Elt F) (oLoc d)))) ∗ ucBut S0 d V) := by
  refine (StableHlo.held_sub_split (d.tc : Thread nD τ) S0_sub V).trans (congrArg (fun A => iprop(A ∗ ucBut S0 d V)) ?_)
  unfold held
  rw [SparseCore.bigSep_insert' (by decide), SparseCore.bigSep_insert' (by decide), bigSep_singleton]

theorem uc_S2 (d : Dev nD) (V : Valuation τ sig (Elt F)) :
    uc d V = iprop(iprop((Comb.iLoc d ↦{fullShare} (V main_v61 : Buf (Elt F) (Comb.iLoc d))) ∗ (Comb.xLoc d ↦{fullShare} (V main_v62 : Buf (Elt F) (Comb.xLoc d)))
      ∗ (Comb.oLoc d ↦{fullShare} (V main_v63 : Buf (Elt F) (Comb.oLoc d)))) ∗ ucBut S2 d V) := by
  refine (StableHlo.held_sub_split (d.tc : Thread nD τ) S2_sub V).trans (congrArg (fun A => iprop(A ∗ ucBut S2 d V)) ?_)
  unfold held
  rw [SparseCore.bigSep_insert' (by decide), SparseCore.bigSep_insert' (by decide), bigSep_singleton]

theorem but_update (S : Finset (DevRef τ sig)) (d : Dev nD) (V : Valuation τ sig (Elt F)) (b : DevRef τ sig) (hb : b ∈ S) (v : b.ty.Contents (Elt F)) :
    ucBut S d (Function.update V b v) = ucBut S d V :=
  StableHlo.held_congr (d.tc : Thread nD τ) fun b' hb' => Function.update_of_ne (fun e => (Finset.mem_sdiff.mp hb').2 (by rw [e]; exact hb)) _ _

abbrev sts (q : Fin 2) (d : Dev nD) : sProp 𝕄 := bigSep Finset.univ fun c : Fin ((K (F := F)).nCore q) => (P m).st q d c
abbrev dns (q : Fin 2) (d : Dev nD) : sProp 𝕄 := bigSep Finset.univ fun c : Fin ((K (F := F)).nCore q) => (P m).dn q d c

/-- What the main line keeps during the first call, and during the second. -/
abbrev kept0 (d : Dev nD) : sProp 𝕄 :=
  iprop((oLoc d ↦[rest0 (V1 m d main_v47)]{fullShare} (V1 m d main_v49 : Buf (Elt F) (oLoc d))) ∗ ucBut S0 d (V1 m d))
abbrev kept2 (d : Dev nD) : sProp 𝕄 := ucBut S2 d (V5 m d)

variable {m} in
theorem enter0 (hp : PreOK m) (d : Dev nD) : uc d (V1 m d) ⊢ iprop(sts m 0 d ∗ kept0 m d) := by
  rw [uc_S0, split0 d (V1 m d main_v47) (words0_inj hp d)]
  iintro ⟨⟨H1, H2⟩, H3⟩
  isplitl [H1]; · iexact H1
  isplitl [H2]; · iexact H2
  iexact H3

variable {m} in
theorem leave0 (hp : PreOK m) (d : Dev nD) : iprop(dns m 0 d ∗ kept0 m d) ⊢ uc d (V2 m d) := by
  rw [uc_S0, show ucBut S0 d (V2 m d) = ucBut S0 d (V1 m d) from but_update S0 d (V1 m d) _ (by decide) _,
    V2_other m d (r := main_v47) (by decide), V2_other m d (r := main_v48) (by decide), V2_v49,
    split0 d (V1 m d main_v47) (words0_inj hp d)]
  unfold kept0
  rw [rest_kept d (V1 m d main_v47) (V1 m d main_v48) (V1 m d main_v49)]
  iintro ⟨H1, H2, H3⟩
  isplitr [H3]
  · isplitl [H1]; · iexact H1
    iexact H2
  iexact H3

theorem enter2 (d : Dev nD) : uc d (V5 m d) ⊢ iprop(sts m 1 d ∗ kept2 m d) := by
  rw [uc_S2, split2 d (V5 m d main_v61) (V5 m d main_v62) (V5 m d main_v63)]
  iintro ⟨H1, H2⟩
  isplitl [H1]; · iexact H1
  iexact H2

theorem leave2 (d : Dev nD) : iprop(dns m 1 d ∗ kept2 m d) ⊢ uc d (V6 m d) := by
  rw [uc_S2, show ucBut S2 d (V6 m d) = ucBut S2 d (V5 m d) from but_update S2 d (V5 m d) _ (by decide) _,
    V6_other m d (r := main_v61) (by decide), V6_other m d (r := main_v62) (by decide), V6_v63,
    split2 d (V5 m d main_v61) (V5 m d main_v62) (combined m d)]
  iintro ⟨H1, H2⟩
  isplitl [H1]; · iexact H1
  iexact H2

/-! ## The main line, from its end backwards -/

abbrev PM : Type 1 := Prog (TpuEff nD τ sig (Elt F) (SparseCore.Sig (ΛP (F := F)) 2) .tc) PUnit
abbrev callS (d : Dev nD) (q : Fin 2) : PM (F := F) := (K (F := F)).run d q

abbrev tail6 : PM (F := F) := seq opsD >>= fun _ => pure ⟨⟩
abbrev tail5 (d : Dev nD) : PM (F := F) := callS d 1 >>= fun _ => tail6
abbrev tail4 (d : Dev nD) : PM (F := F) := seq opsC >>= fun _ => tail5 d
abbrev tail3 (d : Dev nD) : PM (F := F) := callM >>= fun _ => tail4 d
abbrev tail2 (d : Dev nD) : PM (F := F) := seq opsB >>= fun _ => tail3 d
abbrev tail1 (d : Dev nD) : PM (F := F) := callS d 0 >>= fun _ => tail2 d
abbrev tail0 (d : Dev nD) : PM (F := F) := seq opsA >>= fun _ => tail1 d

theorem main_tail (d : Dev nD) : main (F := F) d = tail0 d := by
  rw [main_eq]
  unfold tail0 tail1 tail2 tail3 tail4 tail5 tail6
  rw [bind_pure_unit]

abbrev ctxA (κ : GSem nD τ sig → ℕ) : sProp 𝕄 := (K (F := F)).ctx EH (P m) κ
abbrev stA (d : Dev nD) (n : ℕ) : sProp 𝕄 := (K (F := F)).tcSt EH d n
abbrev bndA (d : Dev nD) : sProp 𝕄 := boundary (d.tc : Thread nD τ)
abbrev semA (d : Dev nD) : sProp 𝕄 := (K (F := F)).tcSems0 d
abbrev finA (d : Dev nD) : sProp 𝕄 := iprop(stA d 2 ∗ uc d (V7 m d) ∗ (K (F := F)).tcEnd d)
abbrev runA (d : Dev nD) (p : PM (F := F)) : sProp 𝕄 := wp frame (wpE ((K (F := F)).defs (D (F := F))) 𝒱 (d.tc : Thread nD τ) none) Set.univ p fun _ => finA m d
abbrev goneA (d : Dev nD) (n : ℕ) (V : Valuation τ sig (Elt F)) : sProp 𝕄 := iprop(stA d n ∗ bndA d ∗ uc d V ∗ semA d)

theorem run6 (d : Dev nD) : goneA d 2 (V6 m d) ⊢ runA m d tail6 := by
  iintro ⟨Hst, Hb, Hh, Hs⟩
  iapply (StableHlo.wp_seq 𝒱 none Set.univ d (Pipeline.ucRefs τ sig) (fun _ => pure ⟨⟩) opsD (within opsD_sub) (List.forall_iff_forall_mem.mp opsD_fresh) (V6 m d)) $$ [Hb Hh]
  · isplitl [Hb]; · iexact Hb
    iexact Hh
  iintro ⟨Hb, Hh⟩
  rw [wp_pure]; imodintro
  isplitl [Hst]; · iexact Hst
  isplitl [Hh]; · iexact Hh
  unfold SparseCore.Cfg.tcEnd
  isplitl [Hb]; · iexact Hb
  iexact Hs

theorem run5 (κ : GSem nD τ sig → ℕ) (d : Dev nD) : iprop(ctxA m κ ∗ goneA d 1 (V5 m d)) ⊢ runA m d (tail5 d) := by
  unfold runA tail5
  rw [wp_bind]
  iintro ⟨#Hctx, Hst, Hb, Hh, Hs⟩
  ihave Hh' := (enter2 m d) $$ Hh
  icases Hh' with ⟨Hin, Hk⟩
  iapply ((K (F := F)).wp_run (D (F := F)) 𝒱 (EH := EH) (P := P m) κ d 1) $$ [Hst Hin Hb Hk Hs]
  isplitr; · iexact Hctx
  isplitl [Hst]; · iexact Hst
  isplitl [Hin]; · iexact Hin
  iintro ⟨Hst, Hdn⟩
  iapply (run6 m d)
  isplitl [Hst]; · iexact Hst
  isplitl [Hb]; · iexact Hb
  isplitl [Hdn Hk]
  · iapply (leave2 m d)
    isplitl [Hdn]; · iexact Hdn
    iexact Hk
  iexact Hs

theorem run4 (κ : GSem nD τ sig → ℕ) (d : Dev nD) : iprop(ctxA m κ ∗ goneA d 1 (V4 m d)) ⊢ runA m d (tail4 d) := by
  iintro ⟨Hctx, Hst, Hb, Hh, Hs⟩
  iapply (StableHlo.wp_seq 𝒱 none Set.univ d (Pipeline.ucRefs τ sig) (fun _ => tail5 d) opsC (within opsC_sub) (List.forall_iff_forall_mem.mp opsC_fresh) (V4 m d)) $$ [Hb Hh]
  · isplitl [Hb]; · iexact Hb
    iexact Hh
  iintro ⟨Hb, Hh⟩
  iapply (run5 m κ d)
  isplitl [Hctx]; · iexact Hctx
  isplitl [Hst]; · iexact Hst
  isplitl [Hb]; · iexact Hb
  isplitl [Hh]; · iexact Hh
  iexact Hs

/-- The rest of the main thread's handshake state between the two SparseCore calls. -/
abbrev stRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 2 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some ((SparseCore.Cfg.Blocks.one 2).last q)) 1)))

theorem st_split (d : Dev nD) : stA d 1 = iprop(oweA (F := F) d ∗ stRest d) := rfl

variable {m} in
theorem tabB_eq (hp : PreOK m) : tabB (a1 m hp) = (V3 m 0 main_v38 : S16.Idx → Elt F .i32) := by
  unfold tabB a1
  show tabC m 1 = _
  unfold tabC
  rfl

variable {m} in
theorem call_out (hp : PreOK m) : callPost (a1 m hp) (used m 0) (V3 m) (0 : Dev nD) = iprop(bndA 0 ∗ uc 0 (V4 m 0) ∗ oweA (F := F) 0) := by
  unfold callPost V4
  rw [tabB_eq]

variable {m} in
theorem run3 (hp : PreOK m) (κ : GSem nD τ sig → ℕ) :
    iprop(ctxA m κ ∗ goneA 0 1 (V3 m 0) ∗ ghost (a1 m hp) 0) ⊢ runA m 0 (tail3 0) := by
  unfold runA tail3
  rw [wp_bind]
  iintro ⟨#Hctx, ⟨Hst, Hb, Hh, Hs⟩, Hg⟩
  ihave Hst' := (Entails.of_eq (st_split (F := F) 0)) $$ Hst
  icases Hst' with ⟨HO, Hst⟩
  iapply (wp_wand_r frame _ _)
  isplitl [HO Hb Hh Hg]
  · iapply (call_wp (a1 m hp) (used m 0) (tabs_ok hp) (V3 m) (0 : Dev nD) (fun c k => by rw [Subsingleton.elim c 0]; rfl))
    isplitl [Hb]; · iexact Hb
    isplitl [Hh]; · iexact Hh
    isplitl [HO]; · iexact HO
    isplitr; · iapply (SparseCore.Cfg.ctx_levAts κ); iexact Hctx
    iexact Hg
  iintro %u Hp
  ihave Hp' := (Entails.of_eq (call_out hp)) $$ Hp
  icases Hp' with ⟨Hb, Hh, HO⟩
  iapply (run4 m κ 0)
  isplitr; · iexact Hctx
  isplitl [HO Hst]
  · iapply (Entails.of_eq (st_split (F := F) 0).symm)
    isplitl [HO]; · iexact HO
    iexact Hst
  isplitl [Hb]; · iexact Hb
  isplitl [Hh]; · iexact Hh
  iexact Hs

variable {m} in
theorem run2 (hp : PreOK m) (κ : GSem nD τ sig → ℕ) :
    iprop(ctxA m κ ∗ goneA 0 1 (V2 m 0) ∗ ghost (a1 m hp) 0) ⊢ runA m 0 (tail2 0) := by
  iintro ⟨Hctx, ⟨Hst, Hb, Hh, Hs⟩, Hg⟩
  iapply (StableHlo.wp_seq 𝒱 none Set.univ 0 (Pipeline.ucRefs τ sig) (fun _ => tail3 0) opsB (within opsB_sub) (List.forall_iff_forall_mem.mp opsB_fresh) (V2 m 0)) $$ [Hb Hh]
  · isplitl [Hb]; · iexact Hb
    iexact Hh
  iintro ⟨Hb, Hh⟩
  iapply (run3 hp κ)
  isplitl [Hctx]; · iexact Hctx
  isplitr [Hg]
  · isplitl [Hst]; · iexact Hst
    isplitl [Hb]; · iexact Hb
    isplitl [Hh]; · iexact Hh
    iexact Hs
  iexact Hg

variable {m} in
theorem run1 (hp : PreOK m) (κ : GSem nD τ sig → ℕ) :
    iprop(ctxA m κ ∗ goneA 0 0 (V1 m 0) ∗ ghost (a1 m hp) 0) ⊢ runA m 0 (tail1 0) := by
  unfold runA tail1
  rw [wp_bind]
  iintro ⟨#Hctx, ⟨Hst, Hb, Hh, Hs⟩, Hg⟩
  ihave Hh' := (enter0 hp 0) $$ Hh
  icases Hh' with ⟨Hin, Hk1, Hk2⟩
  iapply ((K (F := F)).wp_run (D (F := F)) 𝒱 (EH := EH) (P := P m) κ 0 0) $$ [Hst Hin Hb Hk1 Hk2 Hs Hg]
  isplitr; · iexact Hctx
  isplitl [Hst]; · iexact Hst
  isplitl [Hin]; · iexact Hin
  iintro ⟨Hst, Hdn⟩
  iapply (run2 hp κ)
  isplitr; · iexact Hctx
  isplitr [Hg]
  · isplitl [Hst]; · iexact Hst
    isplitl [Hb]; · iexact Hb
    isplitl [Hdn Hk1 Hk2]
    · iapply (leave0 hp 0)
      isplitl [Hdn]; · iexact Hdn
      isplitl [Hk1]; · iexact Hk1
      iexact Hk2
    iexact Hs
  iexact Hg

variable {m} in
/-- The main line on its core. -/
theorem hmain (hp : PreOK m) (κ : GSem nD τ sig → ℕ) (d : Dev nD) :
    iprop((K (F := F)).ctx EH (P m) κ ∗ (K (F := F)).tcSt EH d 0 ∗ (K (F := F)).tcRes m ρ d ∗ ghost (a1 m hp) d)
      ⊢ wp frame (wpE ((K (F := F)).defs (D (F := F))) 𝒱 (SparseCore.T d) none) Set.univ (main d)
          fun _ => iprop((K (F := F)).tcSt EH d 2 ∗ uc d (V7 m d) ∗ (K (F := F)).tcEnd d) := by
  obtain rfl : d = 0 := Subsingleton.elim _ _
  rw [main_tail]
  unfold SparseCore.Cfg.tcRes
  rw [show (unscopedBufs (0 : Dev nD) (fun b => m ((SparseCore.T (0 : Dev nD)).loc b)) : sProp 𝕄) = uc 0 (V0 m 0) from
    Pipeline.unscopedBufs_held (0 : Dev nD) (V0 m 0)]
  iintro ⟨Hctx, Hst, ⟨Hb, Hh, Hs, -⟩, Hg⟩
  iapply (StableHlo.wp_seq 𝒱 none Set.univ 0 (Pipeline.ucRefs τ sig) (fun _ => tail1 0) opsA subA freshA (V0 m 0)) $$ [Hb Hh]
  · isplitl [Hb]; · iexact Hb
    iexact Hh
  iintro ⟨Hb, Hh⟩
  iapply (run1 hp κ)
  isplitl [Hctx]; · iexact Hctx
  isplitr [Hg]
  · isplitl [Hst]; · iexact Hst
    isplitl [Hb]; · iexact Hb
    isplitl [Hh]; · iexact Hh
    iexact Hs
  iexact Hg

end Cert.Proof.Moe.Launch

end
-- ==== Proof.Run.lean ====
/-
  The program's run from a launch memory whose rows' experts are below eight: what its result holds, that its
  arguments are untouched and that every counter ends at zero.
-/
module

public import proofs.«01_k».proof.Proof.Main

@[expose] public section

noncomputable section

namespace Cert.Proof.Moe.Launch

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (after seq held)
open Cert.Proof.Moe.Host Cert.Proof.Moe.Meta Cert.Proof.Moe.Region

variable {F : FTy → Type} [FloatOps F]

local notation "𝕄" => MT nD τ sig (HIx 2) (Elt F) ℕ UU ℕ

variable (m : (ℓ : Loc nD τ sig) → Buf (Elt F) ℓ) (ρ : Dev nD → PrngReg)

/-! ## The launch element -/

variable {m} in
def uP (hp : PreOK m) : UP :=
  initOf (Pipeline.cells (Pipeline.pin (pcfgs (F := F)) (adm (a1 m hp))) (phinj (a1 m hp)))
    (Pipeline.launchToks (Pipeline.pin (pcfgs (F := F)) (adm (a1 m hp))) (phinj (a1 m hp)))

variable {m} in
def u₀ (hp : PreOK m) : UU := (initOf (K (F := F)).hsCells (K (F := F)).hsToks, (uP hp, 1))

theorem bigSep_none {I : Type} (s : Finset I) : (bigSep s fun _ => iprop(emp)) = (iprop(emp) : sProp 𝕄) := bigSep_emp_const s

theorem x_none : (bigSep Finset.univ fun thr : Thread nD τ => bigSep Finset.univ fun q : Fin 2 => (P (F := F) m).x q thr) = (iprop(emp) : sProp 𝕄) := by
  rw [show (bigSep Finset.univ fun thr : Thread nD τ => bigSep Finset.univ fun q : Fin 2 => (P (F := F) m).x q thr)
    = bigSep Finset.univ fun _ => iprop(emp) from bigSep_congr fun _ _ => bigSep_none _, bigSep_none]

variable {m} in
abbrev ghosts (hp : PreOK m) : sProp 𝕄 := bigSep Finset.univ fun d : Dev nD => ghost (a1 m hp) d

variable {m} in
theorem fund (hp : PreOK m) : (BI.own (EP (uP hp)) : sProp 𝕄) ⊢ iprop(|==> ghosts hp) := by
  refine (Pipeline.fund_ghost (Pipeline.pin (pcfgs (F := F)) (adm (a1 m hp))) EP (phinj (a1 m hp))).trans (BI.bupd_mono ?_)
  unfold ghosts ghost
  rw [bigSep_sep']
  exact BI.sep_mono (Entails.of_eq (bigSep_congr fun d _ => bigSep_univ_of_subsingleton (0 : Fin 1)))
    (Entails.of_eq (bigSep_congr fun d _ => bigSep_univ_of_subsingleton (0 : Fin 1)))

variable {m} in
theorem fund' (hp : PreOK m) : (BI.own ((Emb.inl.trans (embR (A := UH) (B := UP × Counters))) (uP hp)) : sProp 𝕄) ⊢ iprop(|==> ghosts hp) :=
  fund hp

variable {m} in
theorem hu₀ (hp : PreOK m) : (ownU (u₀ hp) : sProp 𝕄)
    ⊢ |={Set.univ}=> iprop(BI.own (EH (initOf (K (F := F)).hsCells (K (F := F)).hsToks)) ∗ ghosts hp
        ∗ bigSep Finset.univ fun thr : Thread nD τ => bigSep Finset.univ fun q : Fin 2 => (P m).x q thr) := by
  unfold u₀
  rw [x_none]
  iintro Hu
  ihave H := (ownU_pair (initOf (K (F := F)).hsCells (K (F := F)).hsToks) ((uP hp, 1) : UP × Counters)) $$ Hu
  icases H with ⟨HH, HR⟩
  ihave HR' := (own_pair_emb (embR (A := UH) (B := UP × Counters)) (uP hp) (1 : Counters)) $$ HR
  icases HR' with ⟨HP, -⟩
  imod (fund' hp) $$ HP with HG
  imodintro
  isplitl [HH]; · iexact HH
  isplitl [HG]; · iexact HG
  iempintro

/-! ## What the end says of the memory -/

abbrev lo (d : Dev nD) (r : Ref sig .tc) : Loc nD τ sig := (d, dr r)

/-- The result holds what the main line computed; the arguments are as they were. -/
def fq (d : Dev nD) (s' : Phys nD τ sig (Elt F)) : Prop := ∀ r ∈ [main_arg0, main_arg1, main_arg2, main_arg3, main_v64], s'.mem.mem (lo d r) = V7 m d r

theorem read_one (d : Dev nD) (s' : Phys nD τ sig (Elt F)) (V : Valuation τ sig (Elt F)) (r : Ref sig .tc) (h : (dr r).isScoped = false) :
    iprop(uc d V ∗ SI s') ⊢ (⌜s'.mem.mem (lo d r) = V r⌝ : sProp 𝕄) := by
  have e : uc d V ⊢ (lo d r ↦{fullShare} (V r : Buf (Elt F) (lo d r)) : sProp 𝕄) := by
    unfold uc held
    exact bigSep_elim (mem_uc r h)
  iintro ⟨H, HSI⟩
  ihave H' := e $$ H
  ihave Hp := (SI_pointsTo_agree (st := s') (ℓ := lo d r) (I := Finset.univ) (q := fullShare) (f := V r)) $$ [HSI H']
  · isplitl [HSI] <;> iassumption
  icases Hp with %h1
  ipureintro; exact funext fun i => h1 i (Finset.mem_univ i)

theorem read_all (d : Dev nD) (s' : Phys nD τ sig (Elt F)) (V : Valuation τ sig (Elt F)) :
    ∀ l : List (Ref sig .tc), (∀ r ∈ l, (dr r).isScoped = false) → iprop(uc d V ∗ SI s') ⊢ (⌜∀ r ∈ l, s'.mem.mem (lo d r) = V r⌝ : sProp 𝕄)
  | [], _ => by
    iintro -
    ipureintro; exact fun r hr => absurd hr List.not_mem_nil
  | r :: l, hl => by
    iintro H
    ihave H' := (persistent_entails_right (read_one d s' V r (hl r List.mem_cons_self))) $$ H
    icases H' with ⟨%h1, H⟩
    ihave Hp := (read_all d s' V l fun r' hr' => hl r' (List.mem_cons_of_mem _ hr')) $$ H
    icases Hp with %h2
    ipureintro
    intro r' hr'
    rcases List.mem_cons.mp hr' with rfl | hr'
    · exact h1
    · exact h2 r' hr'

theorem hfin (d : Dev nD) (s' : Phys nD τ sig (Elt F)) : iprop(uc d (V7 m d) ∗ SI s') ⊢ (⌜fq m d s'⌝ : sProp 𝕄) :=
  read_all d s' (V7 m d) _ (by decide)

/-! ## The run -/

/-- The result at the main line's value, the arguments as launched, every counter at zero. -/
def QC : PUnit × MemSt nD τ sig (Elt F) → Prop := fun r =>
  (∀ d : Dev nD, ∀ b ∈ [main_arg0, main_arg1, main_arg2, main_arg3, main_v64], r.2.mem (lo d b) = V7 m d b) ∧ r.2.sem = fun _ => 0

variable {m} in
theorem run_main [∀ e, Nonempty (Elt F e)] (hp : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tile0 m hp | 1 => tile1 m hp)
    (fun q _ => match q with | 0 => SparseCore.Cfg.VecSplit.of_plain (vec0 m) | 1 => SparseCore.Cfg.VecSplit.of_plain (vec1 m))
    m ρ main (fun d => ghost (a1 m hp) d) (fun d => uc d (V7 m d)) (u₀ hp) (sep_elim_left.trans (hu₀ hp)) (hmain ρ hp) (fq m) (hfin m) (QC m)
    (fun _ h hz => ⟨h, hz⟩)

end Cert.Proof.Moe.Launch

end
-- ==== Proof.Frames.lean ====
/-
  The frames of the two readings of the program, from its one run; and what the precondition says of the experts.
-/
module

public import proofs.«01_k».proof.Proof.Run
public import proofs.«01_k».proof.Defs
public import Idealize.ShloMosaic.Lib.ReduceAll
public import Idealize.ShloMosaic.Lib.Tactic
public import proofs.«01_k».proof.Proof.Gen.Kernel
public import proofs.«01_k».proof.Proof.Gen.Pre_in_range
public import proofs.«01_k».proof.Proof.Gen.ReferenceIdeal
public import proofs.«01_k».proof.Proof.Gen.ReferenceIdeal.Run

@[expose] public section

noncomputable section

namespace Cert.Proof.Moe.Launch

open Cert.KernelIdeal Cert.KernelIdeal.Gen

open Idealize.ShloMosaic Idealize.ShloMosaic.TcCoe
open Idealize.SL.Sem

variable {F : FTy → Type} [FloatOps F]

/-- One row's two comparisons say that its expert is below eight. -/
theorem expert_of_pair (w : BitVec 32) (h : IntOp.andi (IntOp.cmpi .sge w 0#32) (IntOp.cmpi .slt w 8#32) = 1#1) : w.toNat < 8 := by
  have h1 : ∀ p q : Bool, IntOp.andi (BitVec.ofBool p) (BitVec.ofBool q) = 1#1 → p = true ∧ q = true := by decide
  obtain ⟨ha, hb⟩ := h1 _ _ h
  change BitVec.sle 0#32 w = true at ha
  change BitVec.slt w 8#32 = true at hb
  rw [BitVec.sle_eq_decide, decide_eq_true_eq] at ha
  rw [BitVec.slt_eq_decide, decide_eq_true_eq] at hb
  have z : (0#32 : BitVec 32).toInt = 0 := by decide
  have e : (8#32 : BitVec 32).toInt = 8 := by decide
  rw [z, BitVec.toInt_eq_toNat_cond] at ha
  rw [e, BitVec.toInt_eq_toNat_cond] at hb
  have := w.isLt
  omega

/-- The precondition's one bit gives every row's expert. -/
theorem expert_of_fn (x0 : FVec F S4096x1024 .f32) (t : IVec S4096 32) (x2 : FVec F S8x512x1024 .f32) (x3 : FVec F S8x512 .f32)
    (h : Cert.Pre_in_range.fn (F := F) x0 t x2 x3 = fun _ => 1#1) (i : S4096.Idx) : (t i).toNat < 8 := by
  have : Subsingleton Cert.Pre_in_range.S_.Idx := ⟨fun _ _ => funext fun k => k.elim0⟩
  have e := congrFun h ix0
  dsimp only [Cert.Pre_in_range.fn] at e
  exact expert_of_pair _ (Host.reduce_andi_all _ _ _ _ _ e i)

theorem preOK_of_fn (m : (ℓ : Loc nD τ sig) → Buf (Elt F) ℓ)
    (h : ∀ d : Dev nD, Cert.Pre_in_range.fn (F := F) (V0 m d main_arg0) (V0 m d main_arg1) (V0 m d main_arg2) (V0 m d main_arg3) = fun _ => 1#1) : PreOK m :=
  fun d n => expert_of_fn _ _ _ _ (h d) (ValueIdx.ix1 n)

/-- The arguments end as launched. -/
theorem args_of (m : (ℓ : Loc nD τ sig) → Buf (Elt F) ℓ) (r : PUnit × MemSt nD τ sig (Elt F)) (h : QC m r) (d : Dev nD) :
    r.2.mem (lo d main_arg0) = m (lo d main_arg0) ∧ r.2.mem (lo d main_arg1) = m (lo d main_arg1)
      ∧ r.2.mem (lo d main_arg2) = m (lo d main_arg2) ∧ r.2.mem (lo d main_arg3) = m (lo d main_arg3) :=
  ⟨(h.1 d main_arg0 (by decide)).trans (V7_arg (m := m) (r := main_arg0) d (by decide) (by decide) (by decide) (by decide) (by decide) (by decide) (by decide)),
   (h.1 d main_arg1 (by decide)).trans (V7_arg (m := m) (r := main_arg1) d (by decide) (by decide) (by decide) (by decide) (by decide) (by decide) (by decide)),
   (h.1 d main_arg2 (by decide)).trans (V7_arg (m := m) (r := main_arg2) d (by decide) (by decide) (by decide) (by decide) (by decide) (by decide) (by decide)),
   (h.1 d main_arg3 (by decide)).trans (V7_arg (m := m) (r := main_arg3) d (by decide) (by decide) (by decide) (by decide) (by decide) (by decide) (by decide))⟩

instance (e : EltTy) : Nonempty (Elt Bits e) := by cases e <;> exact ⟨default⟩

theorem frame_ideal : Cert.quiescent_KernelIdeal := fun m ρ hpre =>
  (θ_run (Cert.KernelIdeal.defs (F := Ideal)) _ _).mono (fun r h => ⟨fun d => args_of m r h d, h.2⟩) (run_main (F := Ideal) ρ (preOK_of_fn m hpre))

/-- The frame of the program read over the words of its floats. -/
def quiescent_words : Prop :=
  ∀ (m : (ℓ : Loc Cert.KernelIdeal.nD Cert.KernelIdeal.τ Cert.KernelIdeal.sig) → Buf (Elt Bits) ℓ) (g : Dev Cert.KernelIdeal.nD → PrngReg),
    (∀ c : Dev Cert.KernelIdeal.nD,
      (Cert.Pre_in_range.fn (F := Bits) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)) →
    θ_run (Cert.KernelIdeal.defs (F := Bits)) (Cert.KernelIdeal.threads (F := Bits)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

theorem words_frame : quiescent_words := fun m ρ hpre =>
  (θ_run (Cert.KernelIdeal.defs (F := Bits)) _ _).mono (fun r h => ⟨fun d => args_of m r h d, h.2⟩) (run_main (F := Bits) ρ (preOK_of_fn m hpre))

/-- The two programs are one text, so the two statements are one. -/
theorem words_eq : quiescent_words = Cert.quiescent_Kernel := by sl_kernel_rfl

theorem frame_kernel : Cert.quiescent_Kernel := words_eq ▸ words_frame

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof.Moe.Launch

end
-- ==== Proof.Value.lean ====
/-
  What the program's result holds at the ideal instance: row `n` is row `n` of the features against its own expert's
  matrix, plus that expert's bias.
-/
module

public import proofs.«01_k».proof.Proof.Launch
public import Idealize.ShloMosaic.Lib.Pointwise

@[expose] public section

noncomputable section

namespace Cert.Proof.Moe.Launch

open Cert.KernelIdeal Cert.KernelIdeal.Gen
open Idealize.ShloMosaic Idealize.ShloMosaic.TcCoe
open Cert.Proof.Moe.Host Cert.Proof.Moe.Meta Cert.Proof.Moe.Region

/-! ## The reshapes, at an index -/

section Casts
variable {α : Type}

theorem castD (g : S8192x2x128.Idx → α) (n : Fin 4096) (c : Fin 512) :
    shapeCast S4096x512 g shapeCasts_S8192x2x128_S4096x512 (ix2 n c)
      = g (ix3 ⟨2 * n.val + c.val / 256, by omega⟩ ⟨c.val % 256 / 128, by omega⟩ ⟨c.val % 128, by omega⟩) := by
  pointwise
  have e1 : n.val * 2 + c.val / 256 = 2 * n.val + c.val / 256 := by omega
  have e2 : c.val / 128 % 2 = c.val % 256 / 128 := by omega
  simp only [e1, e2]

theorem castC (g : S8192x512.Idx → α) (r : Fin 16384) (a : Fin 2) (b : Fin 128) :
    shapeCast S16384x2x128 g shapeCasts_S8192x512_S16384x2x128 (ix3 r a b)
      = g (ix2 ⟨r.val / 2, by omega⟩ ⟨r.val % 2 * 256 + a.val * 128 + b.val, by omega⟩) := by
  pointwise

theorem castB (g : S32768x2x128.Idx → α) (p : Fin 8192) (k : Fin 1024) :
    shapeCast S8192x1024 g shapeCasts_S32768x2x128_S8192x1024 (ix2 p k)
      = g (ix3 ⟨4 * p.val + k.val / 256, by omega⟩ ⟨k.val % 256 / 128, by omega⟩ ⟨k.val % 128, by omega⟩) := by
  pointwise
  have e1 : p.val * 4 + k.val / 256 = 4 * p.val + k.val / 256 := by omega
  have e2 : k.val / 128 % 2 = k.val % 256 / 128 := by omega
  simp only [e1, e2]

theorem castA (g : S4096x1024.Idx → α) (r : Fin 16384) (a : Fin 2) (b : Fin 128) :
    shapeCast S16384x2x128 g shapeCasts_S4096x1024_S16384x2x128 (ix3 r a b)
      = g (ix2 ⟨r.val / 4, by omega⟩ ⟨r.val % 4 * 256 + a.val * 128 + b.val, by omega⟩) := by
  pointwise

theorem castBias (g : S8x512.Idx → α) (e : Fin 8) (c : Fin 512) :
    shapeCast S8x1x512 g shapeCasts_S8x512_S8x1x512 (ix3 e (0 : Fin 1) c) = g (ix2 e c) := by
  pointwise

end Casts

/-- One entry of a block of the grouped product. -/
theorem mm_at (g : Fin 8) (X : S512x1024.Idx → EReal) (W : S8x512x1024.Idx → EReal) (B : S8x1x512.Idx → EReal) (r c : Fin 512) :
    mmVal (F := Ideal) g X W B (ix2 r c) = (∑ k : Fin 1024, X (ix2 r k) * W (ix3 g c k)) + B (ix3 g (0 : Fin 1) c) := by
  unfold mmVal k1_pay1
  pointwise

/-! ## From the features to the result -/

section Chain
variable {F : FTy → Type} [FloatOps F] {m : (ℓ : Loc nD τ sig) → Buf (Elt F) ℓ} (hp : PreOK m) (d : Dev nD)

abbrev pl (m : (ℓ : Loc nD τ sig) → Buf (Elt F) ℓ) (d : Dev nD) (n : Fin 4096) : ℕ := place (tk m d) n.val

include hp in
theorem pl_lt (n : Fin 4096) : pl m d n < 7680 := place_lt (tk m d) (hp d) n.val n.isLt

abbrev feat (m : (ℓ : Loc nD τ sig) → Buf (Elt F) ℓ) (d : Dev nD) : S4096x1024.Idx → Elt F .f32 := V0 m d main_arg0
abbrev wts (m : (ℓ : Loc nD τ sig) → Buf (Elt F) ℓ) (d : Dev nD) : S8x512x1024.Idx → Elt F .f32 := V0 m d main_arg2
abbrev bias (m : (ℓ : Loc nD τ sig) → Buf (Elt F) ℓ) (d : Dev nD) : S8x512.Idx → Elt F .f32 := V0 m d main_arg3

theorem inW_eq : inW (V3 m d) = wts m d :=
  (keepB (V2 m d) (by decide)).trans ((V2_other m d (by decide)).trans (keepA (V0 m d) (by decide)))

theorem inB_eq : inB (V3 m d) = shapeCast S8x1x512 (bias m d) shapeCasts_S8x512_S8x1x512 :=
  (B_v51 (V2 m d)).trans (congrArg (fun z : S8x512.Idx → Elt F .f32 => shapeCast S8x1x512 z shapeCasts_S8x512_S8x1x512)
    ((V2_other m d (r := main_arg3) (by decide)).trans (keepA (V0 m d) (by decide))))

theorem inX_eq : inX (V3 m d) = shapeCast S8192x1024 (sorted m d) shapeCasts_S32768x2x128_S8192x1024 :=
  (B_v50 (V2 m d)).trans (congrArg (fun z : S32768x2x128.Idx → Elt F .f32 => shapeCast S8192x1024 z shapeCasts_S32768x2x128_S8192x1024) (V2_v49 m d))

include hp in
/-- Piece `q` of a row lies at its place, one quarter after another. -/
theorem sorted_at (n : Fin 4096) (q : Fin 4) (y : S32768x2x128.Idx) (hy : (y 0).val = 4 * pl m d n + q.val) :
    sorted m d y = feat m d (ix2 n ⟨q.val * 256 + (y 1).val * 128 + (y 2).val, by have h1 : (y 1).val < 2 := (y 1).isLt; have h2 : (y 2).val < 128 := (y 2).isLt; omega⟩) := by
  have hw : ((V1 m d main_v47 : S16384.Idx → BitVec 32) (ix1 (⟨4 * n.val + q.val, by omega⟩ : Fin 16384))).toNat = (y 0).val := by
    rw [V1_v47, phys4_nat (tk m d) (hp d), hy]
    show 4 * place (tk m d) ((4 * n.val + q.val) / 4) + (4 * n.val + q.val) % 4 = _
    rw [show (4 * n.val + q.val) / 4 = n.val by omega, show (4 * n.val + q.val) % 4 = q.val by omega]
  refine (scatV_of _ _ _ (words0_inj hp d) y _ hw).trans ?_
  refine (congrFun (V1_v48 m d) _).trans ((castA (feat m d) _ _ _).trans (congrArg (feat m d) ?_))
  have e1 : (4 * n.val + q.val) / 4 = n.val := by omega
  have e2 : (4 * n.val + q.val) % 4 = q.val := by omega
  funext a
  fin_cases a
  · exact Fin.ext e1
  · exact Fin.ext (by show (4 * n.val + q.val) % 4 * 256 + (y 1).val * 128 + (y 2).val = q.val * 256 + (y 1).val * 128 + (y 2).val; rw [e2])

include hp in
/-- A row's place in the sorted array holds its features. -/
theorem x_at (n : Fin 4096) (k : Fin 1024) (p : Fin 8192) (h : p.val = pl m d n) : inX (V3 m d) (ix2 p k) = feat m d (ix2 n k) := by
  refine (congrFun (inX_eq d) _).trans ((castB (sorted m d) p k).trans ?_)
  refine (sorted_at hp d n ⟨k.val / 256, by omega⟩ _ (by show 4 * p.val + k.val / 256 = _; rw [h])).trans (congrArg (feat m d) ?_)
  funext a
  fin_cases a
  · rfl
  · exact Fin.ext (by show k.val / 256 * 256 + k.val % 256 / 128 * 128 + k.val % 128 = k.val; omega)

/-- The expert of a row. -/
def ex (n : Fin 4096) : Fin 8 := ⟨(tk m d (ValueIdx.ix1 n)).toNat, hp d n⟩

include hp in
/-- The result at a row and column is the product's array at the row's place. -/
theorem result_at (n : Fin 4096) (c : Fin 512) (p : Fin 8192) (h : p.val = pl m d n) :
    (V7 m d main_v64 : S4096x512.Idx → Elt F .f32) (ix2 n c) = (V4 m d main_v52 : S8192x512.Idx → Elt F .f32) (ix2 p c) := by
  have e : (V7 m d main_v64 : S4096x512.Idx → Elt F .f32) = shapeCast S4096x512 (combined m d) shapeCasts_S8192x2x128_S4096x512 :=
    (D_v64 (V6 m d)).trans (congrArg (fun z : S8192x2x128.Idx → Elt F .f32 => shapeCast S4096x512 z shapeCasts_S8192x2x128_S4096x512) (V6_v63 m d))
  refine (congrFun e _).trans ((castD (combined m d) n c).trans ?_)
  have hw : ((V5 m d main_v61 : S8192.Idx → BitVec 32) (ix1 (⟨2 * n.val + c.val / 256, by omega⟩ : Fin 8192))).toNat = 2 * p.val + c.val / 256 := by
    rw [V5_v61, phys2_nat (tk m d) (hp d)]
    show 2 * place (tk m d) ((2 * n.val + c.val / 256) / 2) + (2 * n.val + c.val / 256) % 2 = _
    rw [show (2 * n.val + c.val / 256) / 2 = n.val by omega, show (2 * n.val + c.val / 256) % 2 = c.val / 256 by omega, h]
  refine (congrFun (V5_v62 m d) _).trans ((castC (V4 m d main_v52 : S8192x512.Idx → Elt F .f32) _ _ _).trans
    (congrArg (V4 m d main_v52 : S8192x512.Idx → Elt F .f32) ?_))
  have hr : (Fin.ofNat 16384 ((V5 m d main_v61 : S8192.Idx → BitVec 32) (ix1 (⟨2 * n.val + c.val / 256, by omega⟩ : Fin 8192))).toNat).val = 2 * p.val + c.val / 256 := by
    rw [hw]; exact Nat.mod_eq_of_lt (by have := p.isLt; have := c.isLt; omega)
  funext a
  fin_cases a
  · exact Fin.ext ((congrArg (· / 2) hr).trans (by have := c.isLt; show (2 * p.val + c.val / 256) / 2 = p.val; omega))
  · exact Fin.ext ((congrArg (fun z => z % 2 * 256 + c.val % 256 / 128 * 128 + c.val % 128) hr).trans
      (by have := c.isLt; show (2 * p.val + c.val / 256) % 2 * 256 + c.val % 256 / 128 * 128 + c.val % 128 = c.val; omega))

end Chain

/-- The result at a row and column: the row against its expert's matrix, plus the bias. -/
theorem value_at {m : (ℓ : Loc nD τ sig) → Buf (Elt Ideal) ℓ} (hp : PreOK m) (d : Dev nD) (n : Fin 4096) (c : Fin 512) :
    (V7 m d main_v64 : S4096x512.Idx → EReal) (ix2 n c)
      = (∑ k : Fin 1024, feat m d (ix2 n k) * wts m d (ix3 (ex hp d n) c k)) + bias m d (ix2 (ex hp d n) c) := by
  have hlt := pl_lt hp d n
  have hj : pl m d n / 512 < 16 := by omega
  refine (result_at hp d n c ⟨pl m d n, by omega⟩ rfl).trans ((congrFun (V4_v52 m d) _).trans ?_)
  refine (if_pos (show pl m d n / 512 < used m d from place_div_lt (tk m d) (hp d) n.val n.isLt)).trans ?_
  have hg : grp ((V3 m d main_v38 : S16.Idx → BitVec 32) (ix1 (⟨pl m d n / 512, hj⟩ : Fin 16))) = ex hp d n := by
    refine Fin.ext ?_
    show _ % 8 = _
    have e : ((V3 m d main_v38 : S16.Idx → BitVec 32) (ix1 (⟨pl m d n / 512, hj⟩ : Fin 16))).toNat = (tk m d (ValueIdx.ix1 n)).toNat := by
      rw [V3_v38]
      exact (congrArg (fun z => (btV (tk m d) z).toNat) (ix1_same _).symm).trans (btV_place (tk m d) (hp d) n ⟨pl m d n / 512, hj⟩ rfl)
    rw [e]; exact Nat.mod_eq_of_lt (hp d n)
  refine (mm_at _ _ _ _ ⟨pl m d n % 512, Nat.mod_lt _ (by omega)⟩ c).trans ?_
  refine congrArg₂ (· + ·) (Finset.sum_congr rfl fun k _ => congrArg₂ (· * ·) ?_ ?_) ?_
  · exact x_at hp d n k _ (by show 512 * (pl m d n / 512) + pl m d n % 512 = _; omega)
  · refine (congrFun (inW_eq d) _).trans (congrArg (fun g => wts m d (ix3 g c k)) hg)
  · refine (congrFun (inB_eq d) _).trans ((castBias (bias m d) _ c).trans (congrArg (fun g => bias m d (ix2 g c)) hg))

end Cert.Proof.Moe.Launch

end
-- ==== Proof.Reference.lean ====
/-
  What the reference computes at the ideal instance: row `n` of the result is row `n` of the features against its own
  expert's matrix, plus that expert's bias. The sum over the experts keeps one term: a mask of zero kills its product,
  whatever the product is.
-/
module

public import proofs.«01_k».proof.Proof.Gen.ReferenceIdeal
public import proofs.«01_k».proof.Proof.Gen.ReferenceIdeal.Run
public import Idealize.ShloMosaic.Lib.Pointwise
public import Idealize.ShloMosaic.Lib.Tactic
public import Idealize.ShloMosaic.Lib.Tactic.CleanTypes

@[expose] public section

noncomputable section

namespace Cert.Proof.Moe.Ref

open Cert.ReferenceIdeal Cert.ReferenceIdeal.Gen
open Idealize.ShloMosaic Idealize.ShloMosaic.TcCoe
open Idealize.SL.Sem

variable (x : FVec Ideal S4096x1024 .f32) (t : IVec S4096 32) (w : FVec Ideal S8x512x1024 .f32) (b : FVec Ideal S8x512 .f32)

/-- Row `n` against the matrix of expert `e`, plus its bias, at column `c`. -/
def row (e : Fin 8) (n : Fin 4096) (c : Fin 512) : EReal := (∑ k : Fin 1024, x (ix2 n k) * w (ix3 e c k)) + b (ix2 e c)

/-- The mask of one expert: one at the rows it owns, zero elsewhere. -/
theorem mask (v c : BitVec 32) : FloatOps.uitofp (F := Ideal) (w := 1) FTy.f32 (IntOp.cmpi .eq v c) = (if v = c then 1 else 0 : EReal) := by
  by_cases h : v = c
  · subst h
    have e : IntOp.cmpi .eq v v = 1#1 := by simp [IntOp.cmpi]
    rw [e, if_pos rfl]
    simp [FloatOps.uitofp]
  · have e : IntOp.cmpi .eq v c = 0#1 := by
      change BitVec.ofBool (v == c) = 0#1
      rw [beq_eq_false_iff_ne.mpr h]; rfl
    rw [e, if_neg h]
    simp [FloatOps.uitofp]

/-- Of eight masked terms the sum keeps the one whose number is the word. -/
theorem pick (v : BitVec 32) (hv : v.toNat < 8) (r : Fin 8 → EReal) :
    (if v = 0#32 then 1 else 0) * r 0 + (if v = 1#32 then 1 else 0) * r 1 + (if v = 2#32 then 1 else 0) * r 2 + (if v = 3#32 then 1 else 0) * r 3
      + (if v = 4#32 then 1 else 0) * r 4 + (if v = 5#32 then 1 else 0) * r 5 + (if v = 6#32 then 1 else 0) * r 6 + (if v = 7#32 then 1 else 0) * r 7
      = r ⟨v.toNat, hv⟩ := by
  obtain ⟨n, hn⟩ : ∃ n : Fin 8, v = BitVec.ofNat 32 n.val := ⟨⟨v.toNat, hv⟩, BitVec.eq_of_toNat_eq (by rw [BitVec.toNat_ofNat]; exact (Nat.mod_eq_of_lt v.isLt).symm)⟩
  subst hn
  have e : (⟨(BitVec.ofNat 32 n.val).toNat, hv⟩ : Fin 8) = n := Fin.ext (Nat.mod_eq_of_lt (by omega))
  rw [e]
  fin_cases n <;> simp

theorem ref_at (m : (ℓ : Loc nD τ sig) → Buf (Elt Ideal) ℓ) (d : Dev nD) (j : S4096x512.Idx)
    (hx : m ((d.tc : Thread nD τ).loc main_arg0) = x) (ht : m ((d.tc : Thread nD τ).loc main_arg1) = t)
    (hw : m ((d.tc : Thread nD τ).loc main_arg2) = w) (hb : m ((d.tc : Thread nD τ).loc main_arg3) = b)
    (h : (t (ix1 (j 0))).toNat < 8) : Value.res_main_v128 m d j = row x w b ⟨(t (ix1 (j 0))).toNat, h⟩ (j 0) (j 1) := by
  unfold Value.res_main_v128
  rw [hx, ht, hw, hb]
  clean_types
  pointwise
  simp only [mask]
  exact pick _ h fun e => row x w b e (j 0) (j 1)

end Cert.Proof.Moe.Ref

end
-- ==== Proof.lean ====
/-
  The certificate of the sparse mixture: rows of features sorted by expert on the SparseCore, multiplied block by block
  with their experts' matrices, and gathered back.

  The program is run once over any float values (`Run`), from `Main`, which walks the main line through its three
  calls. Its two frames are that run with the values dropped (`Frames`); the value claim reads what the run left
  (`Value`) against what the reference computes (`Reference`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Frames
public import proofs.«01_k».proof.Proof.Value
public import proofs.«01_k».proof.Proof.Reference

@[expose] public section

noncomputable section

namespace Cert.Proof

open Idealize.ShloMosaic Idealize.ShloMosaic.TcCoe Idealize.SL.Sem
open Cert.Proof.Moe.Launch

/-- From memories that agree on the arguments the reference's result is the program's. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hp : PreOK m)
    (d : Dev Cert.KernelIdeal.nD)
    (h0 : m' ((d.tc : Thread Cert.ReferenceIdeal.nD Cert.ReferenceIdeal.τ).loc Cert.ReferenceIdeal.main_arg0) = feat m d)
    (h1 : m' ((d.tc : Thread Cert.ReferenceIdeal.nD Cert.ReferenceIdeal.τ).loc Cert.ReferenceIdeal.main_arg1) = tk m d)
    (h2 : m' ((d.tc : Thread Cert.ReferenceIdeal.nD Cert.ReferenceIdeal.τ).loc Cert.ReferenceIdeal.main_arg2) = wts m d)
    (h3 : m' ((d.tc : Thread Cert.ReferenceIdeal.nD Cert.ReferenceIdeal.τ).loc Cert.ReferenceIdeal.main_arg3) = bias m d) :
    (Cert.ReferenceIdeal.Value.res_main_v128 m' d : Cert.KernelIdeal.S4096x512.Idx → EReal)
      = (V7 m d Cert.KernelIdeal.main_v64 : Cert.KernelIdeal.S4096x512.Idx → EReal) := by
  funext j
  have ej : j = ix2 (j 0 : Fin 4096) (j 1 : Fin 512) := by funext a; fin_cases a <;> rfl
  have e1 : (ix1 (j 0 : Fin 4096) : Cert.KernelIdeal.S4096.Idx) = ValueIdx.ix1 (j 0 : Fin 4096) := (Cert.Proof.Moe.Meta.ix1_same (n := 4096) (j 0)).symm
  have ht : (tk m d (ix1 (j 0 : Fin 4096))).toNat < 8 := (congrArg (fun z => (tk m d z).toNat) e1).trans_lt (hp d (j 0))
  have hex : (⟨(tk m d (ix1 (j 0 : Fin 4096))).toNat, ht⟩ : Fin 8) = ex hp d (j 0) := Fin.ext (congrArg (fun z => (tk m d z).toNat) e1)
  refine (Cert.Proof.Moe.Ref.ref_at (feat m d) (tk m d) (wts m d) (bias m d) m' d j h0 h1 h2 h3 ht).trans ?_
  refine (congrArg (fun e => Cert.Proof.Moe.Ref.row (feat m d) (wts m d) (bias m d) e (j 0) (j 1)) hex).trans ?_
  exact ((congrArg (V7 m d Cert.KernelIdeal.main_v64 : Cert.KernelIdeal.S4096x512.Idx → EReal) ej).trans (value_at hp d (j 0) (j 1))).symm

theorem algebraic : Cert.algebraic_KernelIdeal_ReferenceIdeal := by
  intro m g m' g' hpre hagree
  have hp : PreOK m := preOK_of_fn m hpre
  refine ⟨fun c => V7 m c Cert.KernelIdeal.main_v64, ?_, ?_⟩
  · exact (θ_run (Cert.KernelIdeal.defs (F := Ideal)) _ _).mono
      (fun r h c => ⟨h.1 c Cert.KernelIdeal.main_v64 (by decide), args_of m r h c⟩) (run_main (F := Ideal) g hp)
  · exact (θ_run Cert.ReferenceIdeal.defs _ _).mono
      (fun r h c => ⟨(h c).1.trans (same_result m m' hp c (hagree c).1 (hagree c).2.1 (hagree c).2.2.1 (hagree c).2.2.2), (h c).2⟩)
      (Cert.ReferenceIdeal.Value.run (F := Ideal) m' g')

theorem claim : Cert.Claim :=
  ⟨Cert.Kernel.Gen.facts, Cert.KernelIdeal.Gen.facts, Cert.ReferenceIdeal.Gen.facts, Cert.Pre_in_range.Gen.facts,
    frame_kernel, frame_ideal, frame_reference, trivial, algebraic⟩

end Cert.Proof

end
